-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_nonneg [hPre_scores_nonneg : Cert.Pre_scores_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scores_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_scores_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_scores_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_scores_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_nonneg [hPre_scores_nonneg : Cert.Pre_scores_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_scores_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_scores_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_scores_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scores_nonneg [hKernelIdeal : Cert.KernelIdeal.Facts] [hPre_scores_nonneg : Cert.Pre_scores_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scores_nonneg [hReferenceIdeal : Cert.ReferenceIdeal.Facts] [hPre_scores_nonneg : Cert.Pre_scores_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_scores_nonneg [hKernelIdeal : Cert.KernelIdeal.Facts] [hReferenceIdeal : Cert.ReferenceIdeal.Facts] [hPre_scores_nonneg : Cert.Pre_scores_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scores_nonneg : Cert.Pre_scores_nonneg.Facts),
    quiescent_Kernel (hKernel := hKernel)
    ∧ quiescent_KernelIdeal (hKernelIdeal := hKernelIdeal)
    ∧ quiescent_KernelIdeal_pre_scores_nonneg (hKernelIdeal := hKernelIdeal) (hPre_scores_nonneg := hPre_scores_nonneg)
    ∧ quiescent_ReferenceIdeal (hReferenceIdeal := hReferenceIdeal)
    ∧ quiescent_ReferenceIdeal_pre_scores_nonneg (hReferenceIdeal := hReferenceIdeal) (hPre_scores_nonneg := hPre_scores_nonneg)
    ∧ preserves_Kernel_KernelIdeal
    ∧ algebraic_KernelIdeal_ReferenceIdeal_pre_scores_nonneg (hKernelIdeal := hKernelIdeal) (hReferenceIdeal := hReferenceIdeal) (hPre_scores_nonneg := hPre_scores_nonneg)
-- ==== Pre_scores_nonneg.lean ====
abbrev S32x8732x21 : Shape := ⟨3, ![32, 8732, 21]⟩
abbrev S32x8732x4 : Shape := ⟨3, ![32, 8732, 4]⟩
abbrev S_ : Shape := ⟨0, ![]⟩

class Facts : Prop where
  bcast_S_S32x8732x21 : S_.BroadcastsInDim S32x8732x21 (![] : Fin 0 → Fin S32x8732x21.rank)

variable [Facts]

def fn_part1 {F : FTy → Type} [FloatOps F] (main_arg8 : FVec F S_ .f32) (main_v4 : IVec S32x8732x21 1) (main_v9 : IVec S32x8732x21 1) (main_v14 : IVec S32x8732x21 1) (main_v15 : IVec S_ 1) (main_cst_6 : FVec F S_ .f32) : IVec S32x8732x21 1 × IVec S32x8732x21 1 × IVec S32x8732x21 1 × IVec S_ 1 :=
  let main_v16 : IVec S_ 1 := cmpf .ole main_arg8 main_cst_6
  let main_v17 : IVec S_ 1 := andi main_v15 main_v16
  (main_v4, main_v9, main_v14, main_v17)

def fn {F : FTy → Type} [FloatOps F] (main_arg0 : FVec F S32x8732x21 .f32) (main_arg1 : FVec F S32x8732x21 .f32) (main_arg2 : FVec F S32x8732x4 .f32) (main_arg3 : FVec F S32x8732x4 .f32) (main_arg4 : FVec F S32x8732x21 .f32) (main_arg5 : FVec F S32x8732x21 .f32) (main_arg6 : FVec F S32x8732x4 .f32) (main_arg7 : FVec F S32x8732x4 .f32) (main_arg8 : FVec F S_ .f32) : IVec S32x8732x21 1 × IVec S32x8732x21 1 × IVec S32x8732x21 1 × IVec S_ 1 :=
  let main_cst : FVec F S_ .f32 := constant S_ .f32 0x00000000#32
  let main_v0 : FVec F S32x8732x21 .f32 := broadcastInDim S32x8732x21 ![] bcast_S_S32x8732x21 main_cst
  let main_v1 : IVec S32x8732x21 1 := cmpf .oge main_arg0 main_v0
  let main_cst_0 : FVec F S_ .f32 := constant S_ .f32 0x7F800000#32
  let main_v2 : FVec F S32x8732x21 .f32 := broadcastInDim S32x8732x21 ![] bcast_S_S32x8732x21 main_cst_0
  let main_v3 : IVec S32x8732x21 1 := cmpf .olt main_arg0 main_v2
  let main_v4 : IVec S32x8732x21 1 := andi main_v1 main_v3
  let main_cst_1 : FVec F S_ .f32 := constant S_ .f32 0x00000000#32
  let main_v5 : FVec F S32x8732x21 .f32 := broadcastInDim S32x8732x21 ![] bcast_S_S32x8732x21 main_cst_1
  let main_v6 : IVec S32x8732x21 1 := cmpf .oge main_arg4 main_v5
  let main_cst_2 : FVec F S_ .f32 := constant S_ .f32 0x7F800000#32
  let main_v7 : FVec F S32x8732x21 .f32 := broadcastInDim S32x8732x21 ![] bcast_S_S32x8732x21 main_cst_2
  let main_v8 : IVec S32x8732x21 1 := cmpf .olt main_arg4 main_v7
  let main_v9 : IVec S32x8732x21 1 := andi main_v6 main_v8
  let main_cst_3 : FVec F S_ .f32 := constant S_ .f32 0x00000000#32
  let main_v10 : FVec F S32x8732x21 .f32 := broadcastInDim S32x8732x21 ![] bcast_S_S32x8732x21 main_cst_3
  let main_v11 : IVec S32x8732x21 1 := cmpf .oge main_arg5 main_v10
  let main_cst_4 : FVec F S_ .f32 := constant S_ .f32 0x7F800000#32
  let main_v12 : FVec F S32x8732x21 .f32 := broadcastInDim S32x8732x21 ![] bcast_S_S32x8732x21 main_cst_4
  let main_v13 : IVec S32x8732x21 1 := cmpf .olt main_arg5 main_v12
  let main_v14 : IVec S32x8732x21 1 := andi main_v11 main_v13
  let main_cst_5 : FVec F S_ .f32 := constant S_ .f32 0x00000000#32
  let main_v15 : IVec S_ 1 := cmpf .oge main_arg8 main_cst_5
  let main_cst_6 : FVec F S_ .f32 := constant S_ .f32 0x3F800000#32
  fn_part1 (F := F) main_arg8 main_v4 main_v9 main_v14 main_v15 main_cst_6
-- ==== Kernel.lean ====
abbrev S32x8732x21 : Shape := ⟨3, ![32, 8732, 21]⟩
abbrev S32x8732x4 : Shape := ⟨3, ![32, 8732, 4]⟩
abbrev S_ : Shape := ⟨0, ![]⟩
abbrev S1x1 : Shape := ⟨2, ![1, 1]⟩
abbrev S21x32x8732 : Shape := ⟨3, ![21, 32, 8732]⟩
abbrev S32x4x8732 : Shape := ⟨3, ![32, 4, 8732]⟩
abbrev S21x8x2944 : Shape := ⟨3, ![21, 8, 2944]⟩
abbrev S8x4x2944 : Shape := ⟨3, ![8, 4, 2944]⟩
abbrev S8x2944 : Shape := ⟨2, ![8, 2944]⟩
abbrev S1x2944 : Shape := ⟨2, ![1, 2944]⟩
abbrev S1x8x2944 : Shape := ⟨3, ![1, 8, 2944]⟩
abbrev S32x2944 : Shape := ⟨2, ![32, 2944]⟩
abbrev S8x32 : Shape := ⟨2, ![8, 32]⟩
abbrev S1 : Shape := ⟨1, ![1]⟩
abbrev S1x1x1 : Shape := ⟨3, ![1, 1, 1]⟩

abbrev nBuf : Space → Nat
  | .hbm => 18
  | .vmem => 20
  | .smem => 2
  | _ => 0

abbrev bufTy : (tb : Table) → Fin (tcTables nBuf tb) → BufTy
  | .hbm, ⟨0, _⟩ => ⟨S32x8732x21, .f32⟩
  | .hbm, ⟨1, _⟩ => ⟨S32x8732x21, .f32⟩
  | .hbm, ⟨2, _⟩ => ⟨S32x8732x4, .f32⟩
  | .hbm, ⟨3, _⟩ => ⟨S32x8732x4, .f32⟩
  | .hbm, ⟨4, _⟩ => ⟨S32x8732x21, .f32⟩
  | .hbm, ⟨5, _⟩ => ⟨S32x8732x21, .f32⟩
  | .hbm, ⟨6, _⟩ => ⟨S32x8732x4, .f32⟩
  | .hbm, ⟨7, _⟩ => ⟨S32x8732x4, .f32⟩
  | .hbm, ⟨8, _⟩ => ⟨S_, .f32⟩
  | .hbm, ⟨9, _⟩ => ⟨S1x1, .f32⟩
  | .hbm, ⟨10, _⟩ => ⟨S21x32x8732, .f32⟩
  | .hbm, ⟨11, _⟩ => ⟨S21x32x8732, .f32⟩
  | .hbm, ⟨12, _⟩ => ⟨S21x32x8732, .f32⟩
  | .hbm, ⟨13, _⟩ => ⟨S32x4x8732, .f32⟩
  | .hbm, ⟨14, _⟩ => ⟨S32x4x8732, .f32⟩
  | .hbm, ⟨15, _⟩ => ⟨S32x4x8732, .f32⟩
  | .hbm, ⟨16, _⟩ => ⟨S1x1, .f32⟩
  | .hbm, ⟨17, _⟩ => ⟨S_, .f32⟩
  | .local _ .vmem, ⟨0, _⟩ => ⟨S21x8x2944, .f32⟩
  | .local _ .vmem, ⟨1, _⟩ => ⟨S21x8x2944, .f32⟩
  | .local _ .vmem, ⟨2, _⟩ => ⟨S21x8x2944, .f32⟩
  | .local _ .vmem, ⟨3, _⟩ => ⟨S21x8x2944, .f32⟩
  | .local _ .vmem, ⟨4, _⟩ => ⟨S21x8x2944, .f32⟩
  | .local _ .vmem, ⟨5, _⟩ => ⟨S21x8x2944, .f32⟩
  | .local _ .vmem, ⟨6, _⟩ => ⟨S8x4x2944, .f32⟩
  | .local _ .vmem, ⟨7, _⟩ => ⟨S8x4x2944, .f32⟩
  | .local _ .vmem, ⟨8, _⟩ => ⟨S8x4x2944, .f32⟩
  | .local _ .vmem, ⟨9, _⟩ => ⟨S8x4x2944, .f32⟩
  | .local _ .vmem, ⟨10, _⟩ => ⟨S8x4x2944, .f32⟩
  | .local _ .vmem, ⟨11, _⟩ => ⟨S8x4x2944, .f32⟩
  | .local _ .vmem, ⟨12, _⟩ => ⟨S8x2944, .f32⟩
  | .local _ .vmem, ⟨13, _⟩ => ⟨S8x2944, .f32⟩
  | .local _ .vmem, ⟨14, _⟩ => ⟨S8x2944, .f32⟩
  | .local _ .vmem, ⟨15, _⟩ => ⟨S8x2944, .f32⟩
  | .local _ .vmem, ⟨16, _⟩ => ⟨S8x2944, .f32⟩
  | .local _ .vmem, ⟨17, _⟩ => ⟨S8x2944, .f32⟩
  | .local _ .vmem, ⟨18, _⟩ => ⟨S8x2944, .f32⟩
  | .local _ .vmem, ⟨19, _⟩ => ⟨S8x2944, .f32⟩
  | .local _ .smem, ⟨0, _⟩ => ⟨S1x1, .f32⟩
  | .local _ .smem, ⟨1, _⟩ => ⟨S1x1, .f32⟩
  | _, _ => ⟨S32x8732x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_stg0_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg0 : BitVec 32 := BitVec.ofNat 32 (i 0).val
  let c3_i32 : BitVec 32 := 3#32
  let v989 : BitVec 1 := Scalar.cmpi .eq arg0 c3_i32
  let arg1 : BitVec 32 := BitVec.ofNat 32 (i 1).val
  let c2_i32 : BitVec 32 := 2#32
  let v990 : BitVec 1 := Scalar.cmpi .eq arg1 c2_i32
  let v991 : BitVec 1 := Scalar.andi v989 v990
  let v992 : BitVec 32 := Scalar.extui v991
  let c0_i32_497 : BitVec 32 := 0#32
  let v993 : BitVec 1 := Scalar.cmpi .ne v992 c0_i32_497
  v993

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S21x8x2944 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S21x8x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S21x8x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x4x2944 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x4x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x4x2944 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S32x8732x21 : Shape := ⟨3, ![32, 8732, 21]⟩
abbrev S32x8732x4 : Shape := ⟨3, ![32, 8732, 4]⟩
abbrev S_ : Shape := ⟨0, ![]⟩
abbrev S16x8732x21 : Shape := ⟨3, ![16, 8732, 21]⟩
abbrev S16x8732x4 : Shape := ⟨3, ![16, 8732, 4]⟩
abbrev S32x8732x20 : Shape := ⟨3, ![32, 8732, 20]⟩
abbrev S32x8732 : Shape := ⟨2, ![32, 8732]⟩
abbrev S32x8732x1 : Shape := ⟨3, ![32, 8732, 1]⟩

abbrev nBuf : Space → Nat
  | .hbm => 180
  | .vmem => 0
  | .smem => 0
  | _ => 0

abbrev hbmTy0_0 (i : Nat) : BufTy := match i % 128 with
  | 0 => ⟨S32x8732x21, .f32⟩
  | 1 => ⟨S32x8732x21, .f32⟩
  | 2 => ⟨S32x8732x4, .f32⟩
  | 3 => ⟨S32x8732x4, .f32⟩
  | 4 => ⟨S32x8732x21, .f32⟩
  | 5 => ⟨S32x8732x21, .f32⟩
  | 6 => ⟨S32x8732x4, .f32⟩
  | 7 => ⟨S32x8732x4, .f32⟩
  | 8 => ⟨S_, .f32⟩
  | 9 => ⟨S16x8732x21, .f32⟩
  | 10 => ⟨S16x8732x21, .f32⟩
  | 11 => ⟨S32x8732x21, .f32⟩
  | 12 => ⟨S16x8732x4, .f32⟩
  | 13 => ⟨S16x8732x4, .f32⟩
  | 14 => ⟨S32x8732x4, .f32⟩
  | 15 => ⟨S32x8732x20, .f32⟩
  | 16 => ⟨S_, .f32⟩
  | 17 => ⟨S32x8732, .f32⟩
  | 18 => ⟨S32x8732x1, .f32⟩
  | 19 => ⟨S32x8732, .f32⟩
  | 20 => ⟨S32x8732, .i1⟩
  | 21 => ⟨S32x8732x20, .f32⟩
  | 22 => ⟨S_, .f32⟩
  | 23 => ⟨S32x8732, .f32⟩
  | 24 => ⟨S32x8732x1, .f32⟩
  | 25 => ⟨S32x8732, .f32⟩
  | 26 => ⟨S32x8732, .i1⟩
  | 27 => ⟨S32x8732, .i1⟩
  | 28 => ⟨S32x8732, .i1⟩
  | 29 => ⟨S32x8732, .i1⟩
  | 30 => ⟨S32x8732, .i1⟩
  | 31 => ⟨S32x8732, .i1⟩
  | 32 => ⟨S32x8732x21, .f32⟩
  | 33 => ⟨S32x8732x21, .f32⟩
  | 34 => ⟨S_, .f32⟩
  | 35 => ⟨S_, .f32⟩
  | 36 => ⟨S32x8732x21, .f32⟩
  | 37 => ⟨S32x8732x21, .f32⟩
  | 38 => ⟨S32x8732x21, .f32⟩
  | 39 => ⟨S_, .f32⟩
  | 40 => ⟨S32x8732x21, .f32⟩
  | 41 => ⟨S32x8732x21, .f32⟩
  | 42 => ⟨S_, .f32⟩
  | 43 => ⟨S32x8732x21, .f32⟩
  | 44 => ⟨S32x8732x21, .f32⟩
  | 45 => ⟨S32x8732x21, .f32⟩
  | 46 => ⟨S32x8732x21, .f32⟩
  | 47 => ⟨S32x8732x21, .f32⟩
  | 48 => ⟨S32x8732x21, .f32⟩
  | 49 => ⟨S_, .f32⟩
  | 50 => ⟨S32x8732, .f32⟩
  | 51 => ⟨S32x8732x21, .f32⟩
  | 52 => ⟨S32x8732x21, .f32⟩
  | 53 => ⟨S32x8732x21, .f32⟩
  | 54 => ⟨S32x8732x21, .f32⟩
  | 55 => ⟨S_, .f32⟩
  | 56 => ⟨S32x8732, .f32⟩
  | 57 => ⟨S32x8732, .f32⟩
  | 58 => ⟨S_, .f32⟩
  | 59 => ⟨S_, .f32⟩
  | 60 => ⟨S32x8732, .f32⟩
  | 61 => ⟨S_, .f32⟩
  | 62 => ⟨S_, .f32⟩
  | 63 => ⟨S_, .f32⟩
  | 64 => ⟨S_, .i1⟩
  | 65 => ⟨S_, .f32⟩
  | 66 => ⟨S_, .f32⟩
  | 67 => ⟨S_, .f32⟩
  | 68 => ⟨S_, .f32⟩
  | 69 => ⟨S_, .f32⟩
  | 70 => ⟨S32x8732, .f32⟩
  | 71 => ⟨S_, .f32⟩
  | 72 => ⟨S_, .f32⟩
  | 73 => ⟨S32x8732, .f32⟩
  | 74 => ⟨S_, .f32⟩
  | 75 => ⟨S_, .f32⟩
  | 76 => ⟨S_, .f32⟩
  | 77 => ⟨S_, .i1⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S32x8732x21, .f32⟩
  | 88 => ⟨S32x8732x21, .f32⟩
  | 89 => ⟨S32x8732x21, .f32⟩
  | 90 => ⟨S_, .f32⟩
  | 91 => ⟨S32x8732x21, .f32⟩
  | 92 => ⟨S32x8732x21, .f32⟩
  | 93 => ⟨S32x8732x21, .f32⟩
  | 94 => ⟨S32x8732x21, .f32⟩
  | 95 => ⟨S32x8732x21, .f32⟩
  | 96 => ⟨S_, .f32⟩
  | 97 => ⟨S32x8732, .f32⟩
  | 98 => ⟨S32x8732, .f32⟩
  | 99 => ⟨S_, .f32⟩
  | 100 => ⟨S_, .f32⟩
  | 101 => ⟨S32x8732, .f32⟩
  | 102 => ⟨S_, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S_, .f32⟩
  | 111 => ⟨S32x8732x4, .f32⟩
  | 112 => ⟨S32x8732x4, .f32⟩
  | 113 => ⟨S_, .f32⟩
  | 114 => ⟨S32x8732, .f32⟩
  | 115 => ⟨S_, .f32⟩
  | 116 => ⟨S32x8732, .f32⟩
  | 117 => ⟨S32x8732, .f32⟩
  | 118 => ⟨S32x8732, .f32⟩
  | 119 => ⟨S_, .f32⟩
  | 120 => ⟨S_, .f32⟩
  | 121 => ⟨S32x8732, .f32⟩
  | 122 => ⟨S_, .f32⟩
  | 123 => ⟨S_, .f32⟩
  | 124 => ⟨S_, .f32⟩
  | 125 => ⟨S_, .i1⟩
  | 126 => ⟨S_, .f32⟩
  | 127 => ⟨S_, .f32⟩
  | _ => ⟨S32x8732x21, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S32x8732x21, .f32⟩
  | 6 => ⟨S32x8732x21, .f32⟩
  | 7 => ⟨S32x8732x21, .f32⟩
  | 8 => ⟨S_, .f32⟩
  | 9 => ⟨S32x8732x21, .f32⟩
  | 10 => ⟨S32x8732x21, .f32⟩
  | 11 => ⟨S32x8732x21, .f32⟩
  | 12 => ⟨S32x8732x21, .f32⟩
  | 13 => ⟨S32x8732x21, .f32⟩
  | 14 => ⟨S_, .f32⟩
  | 15 => ⟨S32x8732, .f32⟩
  | 16 => ⟨S32x8732, .f32⟩
  | 17 => ⟨S_, .f32⟩
  | 18 => ⟨S_, .f32⟩
  | 19 => ⟨S32x8732, .f32⟩
  | 20 => ⟨S_, .f32⟩
  | 21 => ⟨S_, .f32⟩
  | 22 => ⟨S_, .f32⟩
  | 23 => ⟨S_, .i1⟩
  | 24 => ⟨S_, .f32⟩
  | 25 => ⟨S_, .f32⟩
  | 26 => ⟨S_, .f32⟩
  | 27 => ⟨S_, .f32⟩
  | 28 => ⟨S_, .f32⟩
  | 29 => ⟨S32x8732x4, .f32⟩
  | 30 => ⟨S32x8732x4, .f32⟩
  | 31 => ⟨S_, .f32⟩
  | 32 => ⟨S32x8732, .f32⟩
  | 33 => ⟨S_, .f32⟩
  | 34 => ⟨S32x8732, .f32⟩
  | 35 => ⟨S32x8732, .f32⟩
  | 36 => ⟨S32x8732, .f32⟩
  | 37 => ⟨S_, .f32⟩
  | 38 => ⟨S_, .f32⟩
  | 39 => ⟨S32x8732, .f32⟩
  | 40 => ⟨S_, .f32⟩
  | 41 => ⟨S_, .f32⟩
  | 42 => ⟨S_, .f32⟩
  | 43 => ⟨S_, .i1⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S32x8732x21, .f32⟩

abbrev hbmTy (i : Nat) : BufTy := match i / 128 with
  | 0 => hbmTy0_0 i
  | 1 => hbmTy0_1 i
  | _ => ⟨S32x8732x21, .f32⟩

abbrev bufTy : (tb : Table) → Fin (tcTables nBuf tb) → BufTy
  | .hbm, ⟨i, _⟩ => hbmTy i
  | _, _ => ⟨S32x8732x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_cst_15 : Ref sig .tc := ⟨.hbm, 81, rfl⟩
abbrev main_v56 : Ref sig .tc := ⟨.hbm, 82, rfl⟩
abbrev main_v57 : Ref sig .tc := ⟨.hbm, 83, rfl⟩
abbrev main_cst_16 : Ref sig .tc := ⟨.hbm, 84, rfl⟩
abbrev main_v58 : Ref sig .tc := ⟨.hbm, 85, rfl⟩
abbrev main_cst_17 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_18 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_19 : Ref sig .tc := ⟨.hbm, 96, rfl⟩
abbrev main_v67 : Ref sig .tc := ⟨.hbm, 97, rfl⟩
abbrev main_v68 : Ref sig .tc := ⟨.hbm, 98, rfl⟩
abbrev main_cst_20 : Ref sig .tc := ⟨.hbm, 99, rfl⟩
abbrev main_v69 : Ref sig .tc := ⟨.hbm, 100, rfl⟩
abbrev main_v70 : Ref sig .tc := ⟨.hbm, 101, rfl⟩
abbrev main_cst_21 : Ref sig .tc := ⟨.hbm, 102, rfl⟩
abbrev main_v71 : Ref sig .tc := ⟨.hbm, 103, rfl⟩
abbrev main_cst_22 : Ref sig .tc := ⟨.hbm, 104, rfl⟩
abbrev main_v72 : Ref sig .tc := ⟨.hbm, 105, rfl⟩
abbrev main_cst_23 : Ref sig .tc := ⟨.hbm, 106, rfl⟩
abbrev main_v73 : Ref sig .tc := ⟨.hbm, 107, rfl⟩
abbrev main_v74 : Ref sig .tc := ⟨.hbm, 108, rfl⟩
abbrev main_cst_24 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_25 : Ref sig .tc := ⟨.hbm, 113, rfl⟩
abbrev main_v78 : Ref sig .tc := ⟨.hbm, 114, rfl⟩
abbrev main_cst_26 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_27 : Ref sig .tc := ⟨.hbm, 119, rfl⟩
abbrev main_v82 : Ref sig .tc := ⟨.hbm, 120, rfl⟩
abbrev main_v83 : Ref sig .tc := ⟨.hbm, 121, rfl⟩
abbrev main_cst_28 : Ref sig .tc := ⟨.hbm, 122, rfl⟩
abbrev main_v84 : Ref sig .tc := ⟨.hbm, 123, rfl⟩
abbrev main_cst_29 : Ref sig .tc := ⟨.hbm, 124, rfl⟩
abbrev main_v85 : Ref sig .tc := ⟨.hbm, 125, rfl⟩
abbrev main_cst_30 : Ref sig .tc := ⟨.hbm, 126, rfl⟩
abbrev main_v86 : Ref sig .tc := ⟨.hbm, 127, rfl⟩
abbrev main_v87 : Ref sig .tc := ⟨.hbm, 128, rfl⟩
abbrev main_cst_31 : Ref sig .tc := ⟨.hbm, 129, rfl⟩
abbrev main_v88 : Ref sig .tc := ⟨.hbm, 130, rfl⟩
abbrev main_v89 : Ref sig .tc := ⟨.hbm, 131, rfl⟩
abbrev main_cst_32 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_33 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_34 : Ref sig .tc := ⟨.hbm, 142, rfl⟩
abbrev main_v98 : Ref sig .tc := ⟨.hbm, 143, rfl⟩
abbrev main_v99 : Ref sig .tc := ⟨.hbm, 144, rfl⟩
abbrev main_cst_35 : Ref sig .tc := ⟨.hbm, 145, rfl⟩
abbrev main_v100 : Ref sig .tc := ⟨.hbm, 146, rfl⟩
abbrev main_v101 : Ref sig .tc := ⟨.hbm, 147, rfl⟩
abbrev main_cst_36 : Ref sig .tc := ⟨.hbm, 148, rfl⟩
abbrev main_v102 : Ref sig .tc := ⟨.hbm, 149, rfl⟩
abbrev main_cst_37 : Ref sig .tc := ⟨.hbm, 150, rfl⟩
abbrev main_v103 : Ref sig .tc := ⟨.hbm, 151, rfl⟩
abbrev main_cst_38 : Ref sig .tc := ⟨.hbm, 152, rfl⟩
abbrev main_v104 : Ref sig .tc := ⟨.hbm, 153, rfl⟩
abbrev main_v105 : Ref sig .tc := ⟨.hbm, 154, rfl⟩
abbrev main_cst_39 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_40 : Ref sig .tc := ⟨.hbm, 159, rfl⟩
abbrev main_v109 : Ref sig .tc := ⟨.hbm, 160, rfl⟩
abbrev main_cst_41 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_42 : Ref sig .tc := ⟨.hbm, 165, rfl⟩
abbrev main_v113 : Ref sig .tc := ⟨.hbm, 166, rfl⟩
abbrev main_v114 : Ref sig .tc := ⟨.hbm, 167, rfl⟩
abbrev main_cst_43 : Ref sig .tc := ⟨.hbm, 168, rfl⟩
abbrev main_v115 : Ref sig .tc := ⟨.hbm, 169, rfl⟩
abbrev main_cst_44 : Ref sig .tc := ⟨.hbm, 170, rfl⟩
abbrev main_v116 : Ref sig .tc := ⟨.hbm, 171, rfl⟩
abbrev main_cst_45 : Ref sig .tc := ⟨.hbm, 172, rfl⟩
abbrev main_v117 : Ref sig .tc := ⟨.hbm, 173, rfl⟩
abbrev main_v118 : Ref sig .tc := ⟨.hbm, 174, rfl⟩
abbrev main_cst_46 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩

abbrev nD : Nat := 1
abbrev τ : Topo := Topo.v7x

variable {F : FTy → Type} [FloatOps F]
-- ==== Proof.Same.lean ====
module
public import proofs.«01_k».proof.Defs
public import proofs.«01_k».proof.Proof.Gen.Kernel.Frame
public import proofs.«01_k».proof.Proof.Gen.KernelIdeal.Frame
@[expose] public section

/-! The kernel as written and the kernel of the ideal instance are one program: the two printed texts have equal
signatures, windows and bodies. So a run proved of the second, at any floats, is a run of the first. -/

set_option maxHeartbeats 4000000

namespace Cert.Same
open Idealize.ShloMosaic Idealize.SL.Sem
/-- The two launches have one table of processes. -/
theorem defs₀_same : @Cert.Kernel.defs₀ Bits _ Cert.Kernel.Gen.facts = @Cert.KernelIdeal.defs₀ Bits _ Cert.KernelIdeal.Gen.facts := by
  unfold Cert.Kernel.defs₀ Cert.KernelIdeal.defs₀
  apply congrArg (f := Defs.onTc)
  funext l a
  match l, a with
  | 0, (t, s) => rfl

theorem defs_same : @Cert.Kernel.defs Bits _ Cert.Kernel.Gen.facts = @Cert.KernelIdeal.defs Bits _ Cert.KernelIdeal.Gen.facts :=
  congrArg (f := Pipeline.defs (Cert.Kernel.pcfgs (F := Bits))) defs₀_same
/-- The two programs are one program. -/
theorem main_same : @Cert.Kernel.main Bits _ = @Cert.KernelIdeal.main Bits _ := by
  rfl

/-- What the ideal kernel's text does at machine floats, the kernel does. -/
theorem kernel_of_ideal (h : letI := Cert.KernelIdeal.Gen.facts; ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)) : quiescent_Kernel (hKernel := Cert.Kernel.Gen.facts) := fun m g _ => by
  rw [defs_same, main_same]
  exact h m g

end Cert.Same

end
-- ==== Proof.Conds.lean ====
module

public import proofs.«01_k».proof.Proof.Gen.KernelIdeal.Skeleton
public import proofs.«01_k».proof.Proof.Gen.KernelIdeal.Points
public import proofs.«01_k».proof.Proof.Gen.KernelIdeal.Frame
public import Idealize.ShloMosaic.Lib.WordCmp
public import Idealize.ShloMosaic.Lib.Tactic

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two conditions the body branches on -/

/-- The grid coordinates of point `t`: group of images first, block of priors second. -/
theorem coord0 (t : Fin cfg0.N) : (grid0.coords t 0).val = t.val / 3 % 4 := Pipeline.Grid.coords_val t 0 (by decide) rfl
theorem coord1 (t : Fin cfg0.N) : (grid0.coords t 1).val = t.val / 1 % 3 := Pipeline.Grid.coords_val t 1 (by decide) rfl

/-- The accumulators are cleared where both coordinates are zero. -/
abbrev Starts (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The result is written where both coordinates are at their ends. -/
abbrev Ends (i : grid0.Coords) : Prop := k0_cond2 i = 1#1

theorem starts_iff (t : Fin cfg0.N) : Starts (grid0.coords t) ↔ t.val = 0 := by
  have ht : t.val < 12 := Nat.lt_of_lt_of_eq t.isLt N_0
  simp only [Starts, coord0, coord1]
  word_cmp
theorem ends_iff (t : Fin cfg0.N) : Ends (grid0.coords t) ↔ t.val = 11 := by
  have ht : t.val < 12 := Nat.lt_of_lt_of_eq t.isLt N_0
  simp only [Ends, k0_cond2, coord0, coord1]
  word_cmp

theorem out_idle (t : Fin cfg0.N) (h : t.val ≠ 11) : cfg0.idle 7 (grid0.coords t) = true := by
  revert t; decide +kernel
theorem out_live (t : Fin cfg0.N) (h : t.val = 11) : cfg0.idle 7 (grid0.coords t) = false := by
  revert t; decide +kernel
theorem out_kept (t : Fin cfg0.N) (h : t.val ≠ 11) : (cfg0.win 7).flush t = false := by
  revert t; decide +kernel

/-! ## The buffers of a point -/

abbrev buf0 (t : Fin cfg0.N) : Memref sig .tc .smem S1x1 .f32 := win0_0.stage (cfg0.slots t 0)
abbrev buf0_whole (t : Fin cfg0.N) : (buf0 t).IsWhole := hstage0_0 ((cfg0.slots t 0).cast nbuf0_0)
abbrev buf1 (t : Fin cfg0.N) : Memref sig .tc .vmem S21x8x2944 .f32 := win0_1.stage (cfg0.slots t 1)
abbrev buf1_whole (t : Fin cfg0.N) : (buf1 t).IsWhole := hstage0_1 ((cfg0.slots t 1).cast nbuf0_1)
abbrev buf2 (t : Fin cfg0.N) : Memref sig .tc .vmem S21x8x2944 .f32 := win0_2.stage (cfg0.slots t 2)
abbrev buf2_whole (t : Fin cfg0.N) : (buf2 t).IsWhole := hstage0_2 ((cfg0.slots t 2).cast nbuf0_2)
abbrev buf3 (t : Fin cfg0.N) : Memref sig .tc .vmem S21x8x2944 .f32 := win0_3.stage (cfg0.slots t 3)
abbrev buf3_whole (t : Fin cfg0.N) : (buf3 t).IsWhole := hstage0_3 ((cfg0.slots t 3).cast nbuf0_3)
abbrev buf4 (t : Fin cfg0.N) : Memref sig .tc .vmem S8x4x2944 .f32 := win0_4.stage (cfg0.slots t 4)
abbrev buf4_whole (t : Fin cfg0.N) : (buf4 t).IsWhole := hstage0_4 ((cfg0.slots t 4).cast nbuf0_4)
abbrev buf5 (t : Fin cfg0.N) : Memref sig .tc .vmem S8x4x2944 .f32 := win0_5.stage (cfg0.slots t 5)
abbrev buf5_whole (t : Fin cfg0.N) : (buf5 t).IsWhole := hstage0_5 ((cfg0.slots t 5).cast nbuf0_5)
abbrev buf6 (t : Fin cfg0.N) : Memref sig .tc .vmem S8x4x2944 .f32 := win0_6.stage (cfg0.slots t 6)
abbrev buf6_whole (t : Fin cfg0.N) : (buf6 t).IsWhole := hstage0_6 ((cfg0.slots t 6).cast nbuf0_6)
abbrev buf7 (t : Fin cfg0.N) : Memref sig .tc .smem S1x1 .f32 := win0_7.stage (cfg0.slots t 7)
abbrev buf7_whole (t : Fin cfg0.N) : (buf7 t).IsWhole := hstage0_7 ((cfg0.slots t 7).cast nbuf0_7)
abbrev acc0 : Memref sig .tc .vmem S8x2944 .f32 := Memref.whole cc0_scratch0
abbrev acc1 : Memref sig .tc .vmem S8x2944 .f32 := Memref.whole cc0_scratch1
abbrev acc2 : Memref sig .tc .vmem S8x2944 .f32 := Memref.whole cc0_scratch2
abbrev acc3 : Memref sig .tc .vmem S8x2944 .f32 := Memref.whole cc0_scratch3
abbrev acc4 : Memref sig .tc .vmem S8x2944 .f32 := Memref.whole cc0_scratch4
abbrev acc5 : Memref sig .tc .vmem S8x2944 .f32 := Memref.whole cc0_scratch5
abbrev acc6 : Memref sig .tc .vmem S8x2944 .f32 := Memref.whole cc0_scratch6
abbrev acc7 : Memref sig .tc .vmem S8x2944 .f32 := Memref.whole cc0_scratch7

/-- The region's invariant as the eight accumulators at some contents and the generator register. -/
theorem rest_eq (c : Dev nD) :
    (Pipeline.ΦA spec0 c : sProp 𝕄)
      = iprop(iprop((∃ d, owns (c : Thread nD τ) acc0 fullShare d) ∗ (∃ d, owns (c : Thread nD τ) acc1 fullShare d) ∗ (∃ d, owns (c : Thread nD τ) acc2 fullShare d) ∗ (∃ d, owns (c : Thread nD τ) acc3 fullShare d) ∗ (∃ d, owns (c : Thread nD τ) acc4 fullShare d) ∗ (∃ d, owns (c : Thread nD τ) acc5 fullShare d) ∗ (∃ d, owns (c : Thread nD τ) acc6 fullShare d) ∗ (∃ d, owns (c : Thread nD τ) acc7 fullShare d)) ∗ (∃ r, prngReg c r)) := by
  unfold Pipeline.ΦA; rw [scopedRest0_eq]; simp only [acc0, acc1, acc2, acc3, acc4, acc5, acc6, acc7, owns_whole]; try rfl

end Cert.KernelIdeal.Body

end
-- ==== Proof.RunMid.lean ====
module

public import proofs.«01_k».proof.Proof.Conds

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1600000 in
/-- The body at a point that is neither the first nor the last: with the inputs and the eight accumulators at given contents it runs, gives the inputs and the result's buffer back as they were, and leaves in each accumulator the writes listed. -/
def runMid (c : Dev nD) (i : grid0.Coords) (arg2 : Memref sig .tc .smem S1x1 .f32) (harg2 : arg2.IsWhole) (arg3 : Memref sig .tc .vmem S21x8x2944 .f32) (harg3 : arg3.IsWhole) (arg4 : Memref sig .tc .vmem S21x8x2944 .f32) (harg4 : arg4.IsWhole) (arg5 : Memref sig .tc .vmem S21x8x2944 .f32) (harg5 : arg5.IsWhole) (arg6 : Memref sig .tc .vmem S8x4x2944 .f32) (harg6 : arg6.IsWhole) (arg7 : Memref sig .tc .vmem S8x4x2944 .f32) (harg7 : arg7.IsWhole) (arg8 : Memref sig .tc .vmem S8x4x2944 .f32) (harg8 : arg8.IsWhole) (arg9 : Memref sig .tc .smem S1x1 .f32) (harg9 : arg9.IsWhole) (arg10 : Memref sig .tc .vmem S8x2944 .f32) (harg10 : arg10.IsWhole) (arg11 : Memref sig .tc .vmem S8x2944 .f32) (harg11 : arg11.IsWhole) (arg12 : Memref sig .tc .vmem S8x2944 .f32) (harg12 : arg12.IsWhole) (arg13 : Memref sig .tc .vmem S8x2944 .f32) (harg13 : arg13.IsWhole) (arg14 : Memref sig .tc .vmem S8x2944 .f32) (harg14 : arg14.IsWhole) (arg15 : Memref sig .tc .vmem S8x2944 .f32) (harg15 : arg15.IsWhole) (arg16 : Memref sig .tc .vmem S8x2944 .f32) (harg16 : arg16.IsWhole) (arg17 : Memref sig .tc .vmem S8x2944 .f32) (harg17 : arg17.IsWhole)
    (h0 : ¬Starts i) (h1 : ¬Ends i)
    (x0 : Vec F S1x1 .f32) (x1 x2 x3 : Vec F S21x8x2944 .f32) (x4 x5 x6 : Vec F S8x4x2944 .f32) (s0 s1 s2 s3 s4 s5 s6 s7 : Vec F S8x2944 .f32) :
    Σ' (A0 : List (View.Piece (Elt F) S8x2944 .f32)), Σ' (A1 : List (View.Piece (Elt F) S8x2944 .f32)), Σ' (A2 : List (View.Piece (Elt F) S8x2944 .f32)), Σ' (A3 : List (View.Piece (Elt F) S8x2944 .f32)), Σ' (A4 : List (View.Piece (Elt F) S8x2944 .f32)), Σ' (A5 : List (View.Piece (Elt F) S8x2944 .f32)), Σ' (A6 : List (View.Piece (Elt F) S8x2944 .f32)), { A7 : List (View.Piece (Elt F) S8x2944 .f32) //
      ∀ (o : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o ∗ owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4 ∗ owns (c : Thread nD τ) arg15 fullShare s5 ∗ owns (c : Thread nD τ) arg16 fullShare s6 ∗ owns (c : Thread nD τ) arg17 fullShare s7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o ∗ (∃ f, arg10.view.loc (c : Thread nD τ) ↦[arg10.view.set]{fullShare} arg10.view.writes (Elt F) f A0) ∗ (∃ f, arg11.view.loc (c : Thread nD τ) ↦[arg11.view.set]{fullShare} arg11.view.writes (Elt F) f A1) ∗ (∃ f, arg12.view.loc (c : Thread nD τ) ↦[arg12.view.set]{fullShare} arg12.view.writes (Elt F) f A2) ∗ (∃ f, arg13.view.loc (c : Thread nD τ) ↦[arg13.view.set]{fullShare} arg13.view.writes (Elt F) f A3) ∗ (∃ f, arg14.view.loc (c : Thread nD τ) ↦[arg14.view.set]{fullShare} arg14.view.writes (Elt F) f A4) ∗ (∃ f, arg15.view.loc (c : Thread nD τ) ↦[arg15.view.set]{fullShare} arg15.view.writes (Elt F) f A5) ∗ (∃ f, arg16.view.loc (c : Thread nD τ) ↦[arg16.view.set]{fullShare} arg16.view.writes (Elt F) f A6) ∗ (∃ f, arg17.view.loc (c : Thread nD τ) ↦[arg17.view.set]{fullShare} arg17.view.writes (Elt F) f A7)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun o E K => ?run⟩
  case run =>
    simp only [cc0__body_eq_skeleton]; unfold cc0__body_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%g0, %r0, G0⟩, ⟨%g1, %r1, G1⟩, ⟨%g2, %r2, G2⟩, ⟨%g3, %r3, G3⟩, ⟨%g4, %r4, G4⟩, ⟨%g5, %r5, G5⟩, ⟨%g6, %r6, G6⟩, ⟨%g7, %r7, G7⟩, Hk⟩
    obtain rfl := harg2.eq_unread e0; obtain rfl := harg3.eq_unread e1; obtain rfl := harg4.eq_unread e2; obtain rfl := harg5.eq_unread e3; obtain rfl := harg6.eq_unread e4; obtain rfl := harg7.eq_unread e5; obtain rfl := harg8.eq_unread e6; obtain rfl := harg9.eq_unread e7; obtain rfl := harg10.eq_unread r0; obtain rfl := harg11.eq_unread r1; obtain rfl := harg12.eq_unread r2; obtain rfl := harg13.eq_unread r3; obtain rfl := harg14.eq_unread r4; obtain rfl := harg15.eq_unread r5; obtain rfl := harg16.eq_unread r6; obtain rfl := harg17.eq_unread r7
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    iexists _; iexact G7

end Cert.KernelIdeal.Body

end
-- ==== Proof.RunFirst.lean ====
module

public import proofs.«01_k».proof.Proof.RunMid

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1600000 in
/-- The body at the first point: the accumulators come with any contents, are cleared, and end with the writes listed. -/
def runFirst (c : Dev nD) (i : grid0.Coords) (arg2 : Memref sig .tc .smem S1x1 .f32) (harg2 : arg2.IsWhole) (arg3 : Memref sig .tc .vmem S21x8x2944 .f32) (harg3 : arg3.IsWhole) (arg4 : Memref sig .tc .vmem S21x8x2944 .f32) (harg4 : arg4.IsWhole) (arg5 : Memref sig .tc .vmem S21x8x2944 .f32) (harg5 : arg5.IsWhole) (arg6 : Memref sig .tc .vmem S8x4x2944 .f32) (harg6 : arg6.IsWhole) (arg7 : Memref sig .tc .vmem S8x4x2944 .f32) (harg7 : arg7.IsWhole) (arg8 : Memref sig .tc .vmem S8x4x2944 .f32) (harg8 : arg8.IsWhole) (arg9 : Memref sig .tc .smem S1x1 .f32) (harg9 : arg9.IsWhole) (arg10 : Memref sig .tc .vmem S8x2944 .f32) (harg10 : arg10.IsWhole) (arg11 : Memref sig .tc .vmem S8x2944 .f32) (harg11 : arg11.IsWhole) (arg12 : Memref sig .tc .vmem S8x2944 .f32) (harg12 : arg12.IsWhole) (arg13 : Memref sig .tc .vmem S8x2944 .f32) (harg13 : arg13.IsWhole) (arg14 : Memref sig .tc .vmem S8x2944 .f32) (harg14 : arg14.IsWhole) (arg15 : Memref sig .tc .vmem S8x2944 .f32) (harg15 : arg15.IsWhole) (arg16 : Memref sig .tc .vmem S8x2944 .f32) (harg16 : arg16.IsWhole) (arg17 : Memref sig .tc .vmem S8x2944 .f32) (harg17 : arg17.IsWhole)
    (h0 : Starts i) (h1 : ¬Ends i)
    (x0 : Vec F S1x1 .f32) (x1 x2 x3 : Vec F S21x8x2944 .f32) (x4 x5 x6 : Vec F S8x4x2944 .f32) :
    Σ' (A0 : List (View.Piece (Elt F) S8x2944 .f32)), Σ' (A1 : List (View.Piece (Elt F) S8x2944 .f32)), Σ' (A2 : List (View.Piece (Elt F) S8x2944 .f32)), Σ' (A3 : List (View.Piece (Elt F) S8x2944 .f32)), Σ' (A4 : List (View.Piece (Elt F) S8x2944 .f32)), Σ' (A5 : List (View.Piece (Elt F) S8x2944 .f32)), Σ' (A6 : List (View.Piece (Elt F) S8x2944 .f32)), { A7 : List (View.Piece (Elt F) S8x2944 .f32) //
      ∀ (o : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o ∗ (∃ f, arg10.view.loc (c : Thread nD τ) ↦[arg10.view.set]{fullShare} arg10.view.writes (Elt F) f A0) ∗ (∃ f, arg11.view.loc (c : Thread nD τ) ↦[arg11.view.set]{fullShare} arg11.view.writes (Elt F) f A1) ∗ (∃ f, arg12.view.loc (c : Thread nD τ) ↦[arg12.view.set]{fullShare} arg12.view.writes (Elt F) f A2) ∗ (∃ f, arg13.view.loc (c : Thread nD τ) ↦[arg13.view.set]{fullShare} arg13.view.writes (Elt F) f A3) ∗ (∃ f, arg14.view.loc (c : Thread nD τ) ↦[arg14.view.set]{fullShare} arg14.view.writes (Elt F) f A4) ∗ (∃ f, arg15.view.loc (c : Thread nD τ) ↦[arg15.view.set]{fullShare} arg15.view.writes (Elt F) f A5) ∗ (∃ f, arg16.view.loc (c : Thread nD τ) ↦[arg16.view.set]{fullShare} arg16.view.writes (Elt F) f A6) ∗ (∃ f, arg17.view.loc (c : Thread nD τ) ↦[arg17.view.set]{fullShare} arg17.view.writes (Elt F) f A7)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun o E K => ?run⟩
  case run =>
    simp only [cc0__body_eq_skeleton]; unfold cc0__body_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d0, %g0, %r0, G0⟩, ⟨%d1, %g1, %r1, G1⟩, ⟨%d2, %g2, %r2, G2⟩, ⟨%d3, %g3, %r3, G3⟩, ⟨%d4, %g4, %r4, G4⟩, ⟨%d5, %g5, %r5, G5⟩, ⟨%d6, %g6, %r6, G6⟩, ⟨%d7, %g7, %r7, G7⟩, Hk⟩
    obtain rfl := harg2.eq_unread e0; obtain rfl := harg3.eq_unread e1; obtain rfl := harg4.eq_unread e2; obtain rfl := harg5.eq_unread e3; obtain rfl := harg6.eq_unread e4; obtain rfl := harg7.eq_unread e5; obtain rfl := harg8.eq_unread e6; obtain rfl := harg9.eq_unread e7
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    iexists _; iexact G7

end Cert.KernelIdeal.Body

end
-- ==== Proof.RunLast.lean ====
module

public import proofs.«01_k».proof.Proof.RunFirst

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1600000 in
/-- The body at the last point: it adds the block as at any later point and then writes the result's one cell. -/
def runLast (c : Dev nD) (i : grid0.Coords) (arg2 : Memref sig .tc .smem S1x1 .f32) (harg2 : arg2.IsWhole) (arg3 : Memref sig .tc .vmem S21x8x2944 .f32) (harg3 : arg3.IsWhole) (arg4 : Memref sig .tc .vmem S21x8x2944 .f32) (harg4 : arg4.IsWhole) (arg5 : Memref sig .tc .vmem S21x8x2944 .f32) (harg5 : arg5.IsWhole) (arg6 : Memref sig .tc .vmem S8x4x2944 .f32) (harg6 : arg6.IsWhole) (arg7 : Memref sig .tc .vmem S8x4x2944 .f32) (harg7 : arg7.IsWhole) (arg8 : Memref sig .tc .vmem S8x4x2944 .f32) (harg8 : arg8.IsWhole) (arg9 : Memref sig .tc .smem S1x1 .f32) (harg9 : arg9.IsWhole) (arg10 : Memref sig .tc .vmem S8x2944 .f32) (harg10 : arg10.IsWhole) (arg11 : Memref sig .tc .vmem S8x2944 .f32) (harg11 : arg11.IsWhole) (arg12 : Memref sig .tc .vmem S8x2944 .f32) (harg12 : arg12.IsWhole) (arg13 : Memref sig .tc .vmem S8x2944 .f32) (harg13 : arg13.IsWhole) (arg14 : Memref sig .tc .vmem S8x2944 .f32) (harg14 : arg14.IsWhole) (arg15 : Memref sig .tc .vmem S8x2944 .f32) (harg15 : arg15.IsWhole) (arg16 : Memref sig .tc .vmem S8x2944 .f32) (harg16 : arg16.IsWhole) (arg17 : Memref sig .tc .vmem S8x2944 .f32) (harg17 : arg17.IsWhole)
    (h0 : ¬Starts i) (h1 : Ends i)
    (x0 : Vec F S1x1 .f32) (x1 x2 x3 : Vec F S21x8x2944 .f32) (x4 x5 x6 : Vec F S8x4x2944 .f32) (s0 s1 s2 s3 s4 s5 s6 s7 : Vec F S8x2944 .f32) :
    Σ' (L7 : List (View.Piece (Elt F) S1x1 .f32)), Σ' (A0 : List (View.Piece (Elt F) S8x2944 .f32)), Σ' (A1 : List (View.Piece (Elt F) S8x2944 .f32)), Σ' (A2 : List (View.Piece (Elt F) S8x2944 .f32)), Σ' (A3 : List (View.Piece (Elt F) S8x2944 .f32)), Σ' (A4 : List (View.Piece (Elt F) S8x2944 .f32)), Σ' (A5 : List (View.Piece (Elt F) S8x2944 .f32)), Σ' (A6 : List (View.Piece (Elt F) S8x2944 .f32)), { A7 : List (View.Piece (Elt F) S8x2944 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4 ∗ owns (c : Thread nD τ) arg15 fullShare s5 ∗ owns (c : Thread nD τ) arg16 fullShare s6 ∗ owns (c : Thread nD τ) arg17 fullShare s7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f A0) ∗ (∃ f, arg11.view.loc (c : Thread nD τ) ↦[arg11.view.set]{fullShare} arg11.view.writes (Elt F) f A1) ∗ (∃ f, arg12.view.loc (c : Thread nD τ) ↦[arg12.view.set]{fullShare} arg12.view.writes (Elt F) f A2) ∗ (∃ f, arg13.view.loc (c : Thread nD τ) ↦[arg13.view.set]{fullShare} arg13.view.writes (Elt F) f A3) ∗ (∃ f, arg14.view.loc (c : Thread nD τ) ↦[arg14.view.set]{fullShare} arg14.view.writes (Elt F) f A4) ∗ (∃ f, arg15.view.loc (c : Thread nD τ) ↦[arg15.view.set]{fullShare} arg15.view.writes (Elt F) f A5) ∗ (∃ f, arg16.view.loc (c : Thread nD τ) ↦[arg16.view.set]{fullShare} arg16.view.writes (Elt F) f A6) ∗ (∃ f, arg17.view.loc (c : Thread nD τ) ↦[arg17.view.set]{fullShare} arg17.view.writes (Elt F) f A7)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, fun E K => ?run⟩
  case run =>
    simp only [cc0__body_eq_skeleton]; unfold cc0__body_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, %e7, H7⟩, ⟨%g0, %r0, G0⟩, ⟨%g1, %r1, G1⟩, ⟨%g2, %r2, G2⟩, ⟨%g3, %r3, G3⟩, ⟨%g4, %r4, G4⟩, ⟨%g5, %r5, G5⟩, ⟨%g6, %r6, G6⟩, ⟨%g7, %r7, G7⟩, Hk⟩
    obtain rfl := harg2.eq_unread e0; obtain rfl := harg3.eq_unread e1; obtain rfl := harg4.eq_unread e2; obtain rfl := harg5.eq_unread e3; obtain rfl := harg6.eq_unread e4; obtain rfl := harg7.eq_unread e5; obtain rfl := harg8.eq_unread e6; obtain rfl := harg10.eq_unread r0; obtain rfl := harg11.eq_unread r1; obtain rfl := harg12.eq_unread r2; obtain rfl := harg13.eq_unread r3; obtain rfl := harg14.eq_unread r4; obtain rfl := harg15.eq_unread r5; obtain rfl := harg16.eq_unread r6; obtain rfl := harg17.eq_unread r7
    sl_exec (disch := first | sl_exact h0 | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    iexists _; iexact G7

end Cert.KernelIdeal.Body

end
-- ==== Proof.Core.lean ====
module

public import proofs.«01_k».proof.Proof.RunLast

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Eight contents, one for each accumulator. -/
abbrev Accs (F : FTy → Type) [FloatOps F] := Fin 8 → Vec F S8x2944 .f32

/-- The eight accumulators at the contents `s`. -/
def accsAt (c : Dev nD) (s : Accs F) : sProp 𝕄 :=
  iprop(owns (c : Thread nD τ) acc0 fullShare (s 0) ∗ owns (c : Thread nD τ) acc1 fullShare (s 1) ∗ owns (c : Thread nD τ) acc2 fullShare (s 2) ∗ owns (c : Thread nD τ) acc3 fullShare (s 3) ∗ owns (c : Thread nD τ) acc4 fullShare (s 4) ∗ owns (c : Thread nD τ) acc5 fullShare (s 5) ∗ owns (c : Thread nD τ) acc6 fullShare (s 6) ∗ owns (c : Thread nD τ) acc7 fullShare (s 7))

/-- A list of writes that fills the whole of a buffer leaves the contents the list determines. -/
theorem filled {c : Dev nD} {sp : Space} {s : Shape} (a : Memref sig .tc sp s .f32) (L : List (View.Piece (Elt F) s .f32))
    (h : ∀ y, ∃ p ∈ L, y ∈ p.1.set) :
    iprop(∃ f, a.view.loc (c : Thread nD τ) ↦[a.view.set]{fullShare} a.view.writes (Elt F) f L)
      ⊢ (owns (c : Thread nD τ) a fullShare (View.canon L) : sProp 𝕄) := by
  iintro ⟨%f, H⟩
  unfold owns; iexists _; isplitr
  swap; · iexact H
  ipureintro; exact View.read_writes_eq_canon _ _ _ h

/-- What a point in the middle leaves in the accumulators. -/
def midAccs (c : Dev nD) (t : Fin cfg0.N) (h0 : ¬Starts (grid0.coords t)) (h1 : ¬Ends (grid0.coords t)) (x0 : Vec F S1x1 .f32) (x1 : Vec F S21x8x2944 .f32) (x2 : Vec F S21x8x2944 .f32) (x3 : Vec F S21x8x2944 .f32) (x4 : Vec F S8x4x2944 .f32) (x5 : Vec F S8x4x2944 .f32) (x6 : Vec F S8x4x2944 .f32) (s : Accs F) : Accs F
  | 0 => View.canon (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).1
  | 1 => View.canon (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.1
  | 2 => View.canon (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.1
  | 3 => View.canon (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.1
  | 4 => View.canon (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.1
  | 5 => View.canon (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.1
  | 6 => View.canon (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.1
  | 7 => View.canon (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.2.1

set_option maxHeartbeats 3200000 in
/-- The body at a point in the middle, with the accumulators before and after. -/
theorem mid_runs (c : Dev nD) (t : Fin cfg0.N) (h0 : ¬Starts (grid0.coords t)) (h1 : ¬Ends (grid0.coords t)) (x0 : Vec F S1x1 .f32) (x1 : Vec F S21x8x2944 .f32) (x2 : Vec F S21x8x2944 .f32) (x3 : Vec F S21x8x2944 .f32) (x4 : Vec F S8x4x2944 .f32) (x5 : Vec F S8x4x2944 .f32) (x6 : Vec F S8x4x2944 .f32) (s : Accs F) (o : Vec F S1x1 .f32) (E : Set ℕ) (K : PUnit → sProp 𝕄) :
    iprop(accsAt c s ∗ owns (c : Thread nD τ) (buf0 t) fullShare x0 ∗ owns (c : Thread nD τ) (buf1 t) fullShare x1 ∗ owns (c : Thread nD τ) (buf2 t) fullShare x2 ∗ owns (c : Thread nD τ) (buf3 t) fullShare x3 ∗ owns (c : Thread nD τ) (buf4 t) fullShare x4 ∗ owns (c : Thread nD τ) (buf5 t) fullShare x5 ∗ owns (c : Thread nD τ) (buf6 t) fullShare x6 ∗ owns (c : Thread nD τ) (buf7 t) fullShare o ∗ (iprop(accsAt c (midAccs c t h0 h1 x0 x1 x2 x3 x4 x5 x6 s) ∗ owns (c : Thread nD τ) (buf0 t) fullShare x0 ∗ owns (c : Thread nD τ) (buf1 t) fullShare x1 ∗ owns (c : Thread nD τ) (buf2 t) fullShare x2 ∗ owns (c : Thread nD τ) (buf3 t) fullShare x3 ∗ owns (c : Thread nD τ) (buf4 t) fullShare x4 ∗ owns (c : Thread nD τ) (buf5 t) fullShare x5 ∗ owns (c : Thread nD τ) (buf6 t) fullShare x6 ∗ owns (c : Thread nD τ) (buf7 t) fullShare o) -∗ K ⟨⟩))
      ⊢ wp frame (wpE (defs₀ (F := F)) Variants.none c none) E (bodyAt0 t) K := by
  unfold accsAt bodyAt0
  iintro ⟨⟨G0, G1, G2, G3, G4, G5, G6, G7⟩, H0, H1, H2, H3, H4, H5, H6, H7, Hk⟩
  iapply ((runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.2.2 o E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iintro ⟨H0, H1, H2, H3, H4, H5, H6, H7, G0, G1, G2, G3, G4, G5, G6, G7⟩
  iapply Hk
  isplitl [G0 G1 G2 G3 G4 G5 G6 G7]
  · isplitl [G0]
    · iapply (filled acc0 ((runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).1) (View.cover_of_tiledL (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).1 S8x2944.size (by sl_kernel_rfl))); iexact G0
    isplitl [G1]
    · iapply (filled acc1 ((runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.1) (View.cover_of_tiledL (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.1 S8x2944.size (by sl_kernel_rfl))); iexact G1
    isplitl [G2]
    · iapply (filled acc2 ((runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.1) (View.cover_of_tiledL (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.1 S8x2944.size (by sl_kernel_rfl))); iexact G2
    isplitl [G3]
    · iapply (filled acc3 ((runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.1) (View.cover_of_tiledL (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.1 S8x2944.size (by sl_kernel_rfl))); iexact G3
    isplitl [G4]
    · iapply (filled acc4 ((runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.1) (View.cover_of_tiledL (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.1 S8x2944.size (by sl_kernel_rfl))); iexact G4
    isplitl [G5]
    · iapply (filled acc5 ((runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.1) (View.cover_of_tiledL (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.1 S8x2944.size (by sl_kernel_rfl))); iexact G5
    isplitl [G6]
    · iapply (filled acc6 ((runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.1) (View.cover_of_tiledL (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.1 S8x2944.size (by sl_kernel_rfl))); iexact G6
    iapply (filled acc7 ((runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.2.1) (View.cover_of_tiledL (runMid c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.2.1 S8x2944.size (by sl_kernel_rfl))); iexact G7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7
/-- What the first point leaves in the accumulators. -/
def firstAccs (c : Dev nD) (t : Fin cfg0.N) (h0 : Starts (grid0.coords t)) (h1 : ¬Ends (grid0.coords t)) (x0 : Vec F S1x1 .f32) (x1 : Vec F S21x8x2944 .f32) (x2 : Vec F S21x8x2944 .f32) (x3 : Vec F S21x8x2944 .f32) (x4 : Vec F S8x4x2944 .f32) (x5 : Vec F S8x4x2944 .f32) (x6 : Vec F S8x4x2944 .f32) : Accs F
  | 0 => View.canon (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).1
  | 1 => View.canon (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.1
  | 2 => View.canon (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.1
  | 3 => View.canon (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.1
  | 4 => View.canon (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.1
  | 5 => View.canon (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.2.1
  | 6 => View.canon (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.2.2.1
  | 7 => View.canon (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.2.2.2.1

set_option maxHeartbeats 3200000 in
/-- The body at the first point, with the accumulators before and after. -/
theorem first_runs (c : Dev nD) (t : Fin cfg0.N) (h0 : Starts (grid0.coords t)) (h1 : ¬Ends (grid0.coords t)) (x0 : Vec F S1x1 .f32) (x1 : Vec F S21x8x2944 .f32) (x2 : Vec F S21x8x2944 .f32) (x3 : Vec F S21x8x2944 .f32) (x4 : Vec F S8x4x2944 .f32) (x5 : Vec F S8x4x2944 .f32) (x6 : Vec F S8x4x2944 .f32) (o : Vec F S1x1 .f32) (E : Set ℕ) (K : PUnit → sProp 𝕄) :
    iprop(((∃ d, owns (c : Thread nD τ) acc0 fullShare d) ∗ (∃ d, owns (c : Thread nD τ) acc1 fullShare d) ∗ (∃ d, owns (c : Thread nD τ) acc2 fullShare d) ∗ (∃ d, owns (c : Thread nD τ) acc3 fullShare d) ∗ (∃ d, owns (c : Thread nD τ) acc4 fullShare d) ∗ (∃ d, owns (c : Thread nD τ) acc5 fullShare d) ∗ (∃ d, owns (c : Thread nD τ) acc6 fullShare d) ∗ (∃ d, owns (c : Thread nD τ) acc7 fullShare d)) ∗ owns (c : Thread nD τ) (buf0 t) fullShare x0 ∗ owns (c : Thread nD τ) (buf1 t) fullShare x1 ∗ owns (c : Thread nD τ) (buf2 t) fullShare x2 ∗ owns (c : Thread nD τ) (buf3 t) fullShare x3 ∗ owns (c : Thread nD τ) (buf4 t) fullShare x4 ∗ owns (c : Thread nD τ) (buf5 t) fullShare x5 ∗ owns (c : Thread nD τ) (buf6 t) fullShare x6 ∗ owns (c : Thread nD τ) (buf7 t) fullShare o ∗ (iprop(accsAt c (firstAccs c t h0 h1 x0 x1 x2 x3 x4 x5 x6) ∗ owns (c : Thread nD τ) (buf0 t) fullShare x0 ∗ owns (c : Thread nD τ) (buf1 t) fullShare x1 ∗ owns (c : Thread nD τ) (buf2 t) fullShare x2 ∗ owns (c : Thread nD τ) (buf3 t) fullShare x3 ∗ owns (c : Thread nD τ) (buf4 t) fullShare x4 ∗ owns (c : Thread nD τ) (buf5 t) fullShare x5 ∗ owns (c : Thread nD τ) (buf6 t) fullShare x6 ∗ owns (c : Thread nD τ) (buf7 t) fullShare o) -∗ K ⟨⟩))
      ⊢ wp frame (wpE (defs₀ (F := F)) Variants.none c none) E (bodyAt0 t) K := by
  unfold accsAt bodyAt0
  iintro ⟨⟨G0, G1, G2, G3, G4, G5, G6, G7⟩, H0, H1, H2, H3, H4, H5, H6, H7, Hk⟩
  iapply ((runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.2.2.2.2 o E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iintro ⟨H0, H1, H2, H3, H4, H5, H6, H7, G0, G1, G2, G3, G4, G5, G6, G7⟩
  iapply Hk
  isplitl [G0 G1 G2 G3 G4 G5 G6 G7]
  · isplitl [G0]
    · iapply (filled acc0 ((runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).1) (View.cover_of_tiledL (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).1 S8x2944.size (by sl_kernel_rfl))); iexact G0
    isplitl [G1]
    · iapply (filled acc1 ((runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.1) (View.cover_of_tiledL (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.1 S8x2944.size (by sl_kernel_rfl))); iexact G1
    isplitl [G2]
    · iapply (filled acc2 ((runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.1) (View.cover_of_tiledL (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.1 S8x2944.size (by sl_kernel_rfl))); iexact G2
    isplitl [G3]
    · iapply (filled acc3 ((runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.1) (View.cover_of_tiledL (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.1 S8x2944.size (by sl_kernel_rfl))); iexact G3
    isplitl [G4]
    · iapply (filled acc4 ((runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.1) (View.cover_of_tiledL (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.1 S8x2944.size (by sl_kernel_rfl))); iexact G4
    isplitl [G5]
    · iapply (filled acc5 ((runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.2.1) (View.cover_of_tiledL (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.2.1 S8x2944.size (by sl_kernel_rfl))); iexact G5
    isplitl [G6]
    · iapply (filled acc6 ((runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.2.2.1) (View.cover_of_tiledL (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.2.2.1 S8x2944.size (by sl_kernel_rfl))); iexact G6
    iapply (filled acc7 ((runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.2.2.2.1) (View.cover_of_tiledL (runFirst c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6).2.2.2.2.2.2.2.1 S8x2944.size (by sl_kernel_rfl))); iexact G7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7
/-- What the last point leaves in the accumulators. -/
def lastAccs (c : Dev nD) (t : Fin cfg0.N) (h0 : ¬Starts (grid0.coords t)) (h1 : Ends (grid0.coords t)) (x0 : Vec F S1x1 .f32) (x1 : Vec F S21x8x2944 .f32) (x2 : Vec F S21x8x2944 .f32) (x3 : Vec F S21x8x2944 .f32) (x4 : Vec F S8x4x2944 .f32) (x5 : Vec F S8x4x2944 .f32) (x6 : Vec F S8x4x2944 .f32) (s : Accs F) : Accs F
  | 0 => View.canon (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.1
  | 1 => View.canon (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.1
  | 2 => View.canon (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.1
  | 3 => View.canon (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.1
  | 4 => View.canon (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.1
  | 5 => View.canon (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.1
  | 6 => View.canon (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.2.1
  | 7 => View.canon (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.2.2.1
/-- What the last point leaves in the result's buffer. -/
def lastOut (c : Dev nD) (t : Fin cfg0.N) (h0 : ¬Starts (grid0.coords t)) (h1 : Ends (grid0.coords t)) (x0 : Vec F S1x1 .f32) (x1 : Vec F S21x8x2944 .f32) (x2 : Vec F S21x8x2944 .f32) (x3 : Vec F S21x8x2944 .f32) (x4 : Vec F S8x4x2944 .f32) (x5 : Vec F S8x4x2944 .f32) (x6 : Vec F S8x4x2944 .f32) (s : Accs F) : Vec F S1x1 .f32 :=
  View.canon (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).1

set_option maxHeartbeats 3200000 in
/-- The body at the last point, with the accumulators before and after. -/
theorem last_runs (c : Dev nD) (t : Fin cfg0.N) (h0 : ¬Starts (grid0.coords t)) (h1 : Ends (grid0.coords t)) (x0 : Vec F S1x1 .f32) (x1 : Vec F S21x8x2944 .f32) (x2 : Vec F S21x8x2944 .f32) (x3 : Vec F S21x8x2944 .f32) (x4 : Vec F S8x4x2944 .f32) (x5 : Vec F S8x4x2944 .f32) (x6 : Vec F S8x4x2944 .f32) (s : Accs F) (E : Set ℕ) (K : PUnit → sProp 𝕄) :
    iprop(accsAt c s ∗ owns (c : Thread nD τ) (buf0 t) fullShare x0 ∗ owns (c : Thread nD τ) (buf1 t) fullShare x1 ∗ owns (c : Thread nD τ) (buf2 t) fullShare x2 ∗ owns (c : Thread nD τ) (buf3 t) fullShare x3 ∗ owns (c : Thread nD τ) (buf4 t) fullShare x4 ∗ owns (c : Thread nD τ) (buf5 t) fullShare x5 ∗ owns (c : Thread nD τ) (buf6 t) fullShare x6 ∗ (∃ d, owns (c : Thread nD τ) (buf7 t) fullShare d) ∗ (iprop(accsAt c (lastAccs c t h0 h1 x0 x1 x2 x3 x4 x5 x6 s) ∗ owns (c : Thread nD τ) (buf0 t) fullShare x0 ∗ owns (c : Thread nD τ) (buf1 t) fullShare x1 ∗ owns (c : Thread nD τ) (buf2 t) fullShare x2 ∗ owns (c : Thread nD τ) (buf3 t) fullShare x3 ∗ owns (c : Thread nD τ) (buf4 t) fullShare x4 ∗ owns (c : Thread nD τ) (buf5 t) fullShare x5 ∗ owns (c : Thread nD τ) (buf6 t) fullShare x6 ∗ owns (c : Thread nD τ) (buf7 t) fullShare (lastOut c t h0 h1 x0 x1 x2 x3 x4 x5 x6 s)) -∗ K ⟨⟩))
      ⊢ wp frame (wpE (defs₀ (F := F)) Variants.none c none) E (bodyAt0 t) K := by
  unfold accsAt bodyAt0
  iintro ⟨⟨G0, G1, G2, G3, G4, G5, G6, G7⟩, H0, H1, H2, H3, H4, H5, H6, H7, Hk⟩
  iapply ((runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iintro ⟨H0, H1, H2, H3, H4, H5, H6, H7, G0, G1, G2, G3, G4, G5, G6, G7⟩
  iapply Hk
  isplitl [G0 G1 G2 G3 G4 G5 G6 G7]
  · isplitl [G0]
    · iapply (filled acc0 ((runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.1) (View.cover_of_tiledL (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.1 S8x2944.size (by sl_kernel_rfl))); iexact G0
    isplitl [G1]
    · iapply (filled acc1 ((runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.1) (View.cover_of_tiledL (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.1 S8x2944.size (by sl_kernel_rfl))); iexact G1
    isplitl [G2]
    · iapply (filled acc2 ((runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.1) (View.cover_of_tiledL (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.1 S8x2944.size (by sl_kernel_rfl))); iexact G2
    isplitl [G3]
    · iapply (filled acc3 ((runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.1) (View.cover_of_tiledL (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.1 S8x2944.size (by sl_kernel_rfl))); iexact G3
    isplitl [G4]
    · iapply (filled acc4 ((runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.1) (View.cover_of_tiledL (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.1 S8x2944.size (by sl_kernel_rfl))); iexact G4
    isplitl [G5]
    · iapply (filled acc5 ((runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.1) (View.cover_of_tiledL (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.1 S8x2944.size (by sl_kernel_rfl))); iexact G5
    isplitl [G6]
    · iapply (filled acc6 ((runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.2.1) (View.cover_of_tiledL (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.2.1 S8x2944.size (by sl_kernel_rfl))); iexact G6
    iapply (filled acc7 ((runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.2.2.1) (View.cover_of_tiledL (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).2.2.2.2.2.2.2.2.1 S8x2944.size (by sl_kernel_rfl))); iexact G7
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (filled (buf7 t) ((runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).1) (View.cover_of_tiledL (runLast c (grid0.coords t) (buf0 t) (buf0_whole t) (buf1 t) (buf1_whole t) (buf2 t) (buf2_whole t) (buf3 t) (buf3_whole t) (buf4 t) (buf4_whole t) (buf5 t) (buf5_whole t) (buf6 t) (buf6_whole t) (buf7 t) (buf7_whole t) acc0 (Memref.isWhole_whole _) acc1 (Memref.isWhole_whole _) acc2 (Memref.isWhole_whole _) acc3 (Memref.isWhole_whole _) acc4 (Memref.isWhole_whole _) acc5 (Memref.isWhole_whole _) acc6 (Memref.isWhole_whole _) acc7 (Memref.isWhole_whole _) h0 h1 x0 x1 x2 x3 x4 x5 x6 (s 0) (s 1) (s 2) (s 3) (s 4) (s 5) (s 6) (s 7)).1 S1x1.size (by sl_kernel_rfl))); iexact H7

end Cert.KernelIdeal.Body

end
-- ==== Proof.Story.lean ====
module

public import proofs.«01_k».proof.Proof.Core

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point finds in the inputs' buffers

A window whose last block overhangs its array leaves the lanes past the array's end at contents nothing names: `d`. -/

abbrev in0 (c : Dev nD) (t : Fin cfg0.N) : Vec F S1x1 .f32 := iblk m c 0 t
abbrev in1 (c : Dev nD) (t : Fin cfg0.N) (d : Vec F S21x8x2944 .f32) : Vec F S21x8x2944 .f32 := (cfg0.win 1).fill (grid0.coords t) d (iblk m c 1 t)
abbrev in2 (c : Dev nD) (t : Fin cfg0.N) (d : Vec F S21x8x2944 .f32) : Vec F S21x8x2944 .f32 := (cfg0.win 2).fill (grid0.coords t) d (iblk m c 2 t)
abbrev in3 (c : Dev nD) (t : Fin cfg0.N) (d : Vec F S21x8x2944 .f32) : Vec F S21x8x2944 .f32 := (cfg0.win 3).fill (grid0.coords t) d (iblk m c 3 t)
abbrev in4 (c : Dev nD) (t : Fin cfg0.N) (d : Vec F S8x4x2944 .f32) : Vec F S8x4x2944 .f32 := (cfg0.win 4).fill (grid0.coords t) d (iblk m c 4 t)
abbrev in5 (c : Dev nD) (t : Fin cfg0.N) (d : Vec F S8x4x2944 .f32) : Vec F S8x4x2944 .f32 := (cfg0.win 5).fill (grid0.coords t) d (iblk m c 5 t)
abbrev in6 (c : Dev nD) (t : Fin cfg0.N) (d : Vec F S8x4x2944 .f32) : Vec F S8x4x2944 .f32 := (cfg0.win 6).fill (grid0.coords t) d (iblk m c 6 t)

/-- What a proof fits of the accumulators before each point (`fits`) and of the result's buffer at the end (`result`, when
`named`), with the facts that carry it from point to point. -/
structure Story where
  fits : Dev nD → ℕ → Accs F → Prop
  result : Dev nD → Vec F S1x1 .f32
  named : Bool
  start : ∀ c s, fits c 0 s
  first : ∀ c (t : Fin cfg0.N) (h : t.val = 0) h0 h1 d1 d2 d3 d4 d5 d6, fits c 1 (firstAccs c t h0 h1 (in0 m c t) (in1 m c t d1) (in2 m c t d2) (in3 m c t d3) (in4 m c t d4) (in5 m c t d5) (in6 m c t d6))
  mid : ∀ c (t : Fin cfg0.N) (h : t.val ≠ 0) (h' : t.val ≠ 11) h0 h1 d1 d2 d3 d4 d5 d6 s, fits c t.val s → fits c (t.val + 1) (midAccs c t h0 h1 (in0 m c t) (in1 m c t d1) (in2 m c t d2) (in3 m c t d3) (in4 m c t d4) (in5 m c t d5) (in6 m c t d6) s)
  last : ∀ c (t : Fin cfg0.N) (h : t.val = 11) h0 h1 d1 d2 d3 d4 d5 d6 s, fits c 11 s → fits c 12 (lastAccs c t h0 h1 (in0 m c t) (in1 m c t d1) (in2 m c t d2) (in3 m c t d3) (in4 m c t d4) (in5 m c t d5) (in6 m c t d6) s)
  ends : ∀ c (t : Fin cfg0.N) (h : t.val = 11) h0 h1 d1 d2 d3 d4 d5 d6 s, fits c 11 s → named = true → lastOut c t h0 h1 (in0 m c t) (in1 m c t d1) (in2 m c t d2) (in3 m c t d3) (in4 m c t d4) (in5 m c t d5) (in6 m c t d6) s = result c

variable (S : Story m)

/-- The invariant of the grid's points: the accumulators at contents the story allows, and the generator register. -/
def Inv (c : Dev nD) (n : ℕ) : sProp 𝕄 :=
  iprop(∃ s, ⌜S.fits c n s⌝ ∗ accsAt c s ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => in1 m c t (fun _ => (FloatOps.ofBits .f32 0#32 : F .f32))
    | ⟨2, _⟩ => in2 m c t (fun _ => (FloatOps.ofBits .f32 0#32 : F .f32))
    | ⟨3, _⟩ => in3 m c t (fun _ => (FloatOps.ofBits .f32 0#32 : F .f32))
    | ⟨4, _⟩ => in4 m c t (fun _ => (FloatOps.ofBits .f32 0#32 : F .f32))
    | ⟨5, _⟩ => in5 m c t (fun _ => (FloatOps.ofBits .f32 0#32 : F .f32))
    | ⟨6, _⟩ => in6 m c t (fun _ => (FloatOps.ofBits .f32 0#32 : F .f32))
    | ⟨7, _⟩ => S.result c
  Φ t := Inv m S c t.val
  q _ := fullShare
  owed _ := 0

theorem A_eq (c : Dev nD) (w : Fin cfg0.W) : (dats m S 0 c).A w = V m c (Pipeline.arrRef spec0 w) := by
  dsimp only [dats]

theorem before_0 (c : Dev nD) (t : Fin cfg0.N) (d) : (dats m S 0 c).before 0 t d = in0 m c t :=
  before0_0_of m (dats m S 0 c) (A_eq m S c 0) (fun t => by dsimp only [dats]) t d
theorem before_1 (c : Dev nD) (t : Fin cfg0.N) (d) : (dats m S 0 c).before 1 t d = in1 m c t d := by
  unfold Dat.before; rw [if_pos (fetch0_1 t)]; rfl
theorem before_2 (c : Dev nD) (t : Fin cfg0.N) (d) : (dats m S 0 c).before 2 t d = in2 m c t d := by
  unfold Dat.before; rw [if_pos (fetch0_2 t)]; rfl
theorem before_3 (c : Dev nD) (t : Fin cfg0.N) (d) : (dats m S 0 c).before 3 t d = in3 m c t d := by
  unfold Dat.before; rw [if_pos (fetch0_3 t)]; rfl
theorem before_4 (c : Dev nD) (t : Fin cfg0.N) (d) : (dats m S 0 c).before 4 t d = in4 m c t d := by
  unfold Dat.before; rw [if_pos (fetch0_4 t)]; rfl
theorem before_5 (c : Dev nD) (t : Fin cfg0.N) (d) : (dats m S 0 c).before 5 t d = in5 m c t d := by
  unfold Dat.before; rw [if_pos (fetch0_5 t)]; rfl
theorem before_6 (c : Dev nD) (t : Fin cfg0.N) (d) : (dats m S 0 c).before 6 t d = in6 m c t d := by
  unfold Dat.before; rw [if_pos (fetch0_6 t)]; rfl
theorem moved_1 (c : Dev nD) (t : Fin cfg0.N) (d) : (cfg0.win 1).fill (grid0.coords t) d ((cfg0.win 1).cut (grid0.coords t) ((dats m S 0 c).after 1 t)) = in1 m c t d := by
  dsimp only [dats, in1]; rw [Window.cut_fill]
theorem moved_2 (c : Dev nD) (t : Fin cfg0.N) (d) : (cfg0.win 2).fill (grid0.coords t) d ((cfg0.win 2).cut (grid0.coords t) ((dats m S 0 c).after 2 t)) = in2 m c t d := by
  dsimp only [dats, in2]; rw [Window.cut_fill]
theorem moved_3 (c : Dev nD) (t : Fin cfg0.N) (d) : (cfg0.win 3).fill (grid0.coords t) d ((cfg0.win 3).cut (grid0.coords t) ((dats m S 0 c).after 3 t)) = in3 m c t d := by
  dsimp only [dats, in3]; rw [Window.cut_fill]
theorem moved_4 (c : Dev nD) (t : Fin cfg0.N) (d) : (cfg0.win 4).fill (grid0.coords t) d ((cfg0.win 4).cut (grid0.coords t) ((dats m S 0 c).after 4 t)) = in4 m c t d := by
  dsimp only [dats, in4]; rw [Window.cut_fill]
theorem moved_5 (c : Dev nD) (t : Fin cfg0.N) (d) : (cfg0.win 5).fill (grid0.coords t) d ((cfg0.win 5).cut (grid0.coords t) ((dats m S 0 c).after 5 t)) = in5 m c t d := by
  dsimp only [dats, in5]; rw [Window.cut_fill]
theorem moved_6 (c : Dev nD) (t : Fin cfg0.N) (d) : (cfg0.win 6).fill (grid0.coords t) d ((cfg0.win 6).cut (grid0.coords t) ((dats m S 0 c).after 6 t)) = in6 m c t d := by
  dsimp only [dats, in6]; rw [Window.cut_fill]

/-- The window the frame does not name: the result's, unless the story names it. -/
def unnamed : Fin cfg0.W → Bool := fun w => decide (w = 7) && !S.named

theorem defs₀_row (t : Fin cfg0.N) : defs₀ (F := F) .tc cfg0.body (cfg0.bodyArgs t (cfg0.slots t)) = bodyAt0 t := by
  unfold defs₀; rw [Defs.onTc_tc]

theorem unnamed_7 : unnamed m S 7 = !S.named := by simp [unnamed]

theorem after_0 (c : Dev nD) (t : Fin cfg0.N) : (dats m S 0 c).after 0 t = in0 m c t := by dsimp only [dats]
theorem after_7 (c : Dev nD) (t : Fin cfg0.N) : (dats m S 0 c).after 7 t = S.result c := by dsimp only [dats]

theorem out_live' (t : Fin cfg0.N) (h : t.val = 11) : idle0 7 (grid0.coords t) = false := out_live t h
theorem out_idle' (t : Fin cfg0.N) (h : t.val ≠ 11) : idle0 7 (grid0.coords t) = true := out_idle t h
theorem back_1 (c : Dev nD) (t : Fin cfg0.N) (d) : (owns (c : Thread nD τ) (buf1 t) fullShare (in1 m c t d) : sProp 𝕄) ⊢ owns (c : Thread nD τ) (buf1 t) fullShare ((cfg0.win 1).fill (grid0.coords t) d ((cfg0.win 1).cut (grid0.coords t) ((dats m S 0 c).after 1 t))) := by rw [moved_1]
theorem back_2 (c : Dev nD) (t : Fin cfg0.N) (d) : (owns (c : Thread nD τ) (buf2 t) fullShare (in2 m c t d) : sProp 𝕄) ⊢ owns (c : Thread nD τ) (buf2 t) fullShare ((cfg0.win 2).fill (grid0.coords t) d ((cfg0.win 2).cut (grid0.coords t) ((dats m S 0 c).after 2 t))) := by rw [moved_2]
theorem back_3 (c : Dev nD) (t : Fin cfg0.N) (d) : (owns (c : Thread nD τ) (buf3 t) fullShare (in3 m c t d) : sProp 𝕄) ⊢ owns (c : Thread nD τ) (buf3 t) fullShare ((cfg0.win 3).fill (grid0.coords t) d ((cfg0.win 3).cut (grid0.coords t) ((dats m S 0 c).after 3 t))) := by rw [moved_3]
theorem back_4 (c : Dev nD) (t : Fin cfg0.N) (d) : (owns (c : Thread nD τ) (buf4 t) fullShare (in4 m c t d) : sProp 𝕄) ⊢ owns (c : Thread nD τ) (buf4 t) fullShare ((cfg0.win 4).fill (grid0.coords t) d ((cfg0.win 4).cut (grid0.coords t) ((dats m S 0 c).after 4 t))) := by rw [moved_4]
theorem back_5 (c : Dev nD) (t : Fin cfg0.N) (d) : (owns (c : Thread nD τ) (buf5 t) fullShare (in5 m c t d) : sProp 𝕄) ⊢ owns (c : Thread nD τ) (buf5 t) fullShare ((cfg0.win 5).fill (grid0.coords t) d ((cfg0.win 5).cut (grid0.coords t) ((dats m S 0 c).after 5 t))) := by rw [moved_5]
theorem back_6 (c : Dev nD) (t : Fin cfg0.N) (d) : (owns (c : Thread nD τ) (buf6 t) fullShare (in6 m c t d) : sProp 𝕄) ⊢ owns (c : Thread nD τ) (buf6 t) fullShare ((cfg0.win 6).fill (grid0.coords t) d ((cfg0.win 6).cut (grid0.coords t) ((dats m S 0 c).after 6 t))) := by rw [moved_6]

set_option maxHeartbeats 6400000 in
/-- The body keeps the invariant at every point: it is at the first point, at the last, or between. -/
theorem body_obligation (c : Dev nD) : BodyObligationLoose (dats m S 0 c) defs₀ Variants.none () Set.univ (unnamed m S) := by
  intro t
  have hN : t.val < 12 := lt_of_lt_of_eq t.isLt (show cfg0.N = 12 from N_0)
  rw [bigSep_W0, bigSep_W0, defs₀_row]
  by_cases ht0 : t.val = 0
  · have ht11 : t.val ≠ 11 := by omega
    cases hb : S.named <;> simp only [hb, Bool.not_false, Bool.not_true, out_idle t ht11, out_kept t ht11, show unnamed m S 0 = false from rfl, show unnamed m S 1 = false from rfl, show unnamed m S 2 = false from rfl, show unnamed m S 3 = false from rfl, show unnamed m S 4 = false from rfl, show unnamed m S 5 = false from rfl, show unnamed m S 6 = false from rfl, unnamed_7, show cfg0.idle 0 (cfg0.grid.coords t) = false from rfl, show cfg0.idle 1 (cfg0.grid.coords t) = false from rfl, show cfg0.idle 2 (cfg0.grid.coords t) = false from rfl, show cfg0.idle 3 (cfg0.grid.coords t) = false from rfl, show cfg0.idle 4 (cfg0.grid.coords t) = false from rfl, show cfg0.idle 5 (cfg0.grid.coords t) = false from rfl, show cfg0.idle 6 (cfg0.grid.coords t) = false from rfl, show cfg0.loose 1 = true from rfl, show cfg0.loose 2 = true from rfl, show cfg0.loose 3 = true from rfl, show cfg0.loose 4 = true from rfl, show cfg0.loose 5 = true from rfl, show cfg0.loose 6 = true from rfl, show cfg0.loose 0 = false from rfl, show cfg0.loose 7 = false from rfl, before_0, before_1, before_2, before_3, before_4, before_5, before_6, after_0, after_7, after_0, show (dats m S 0 c).Φ t.castSucc = Inv m S c t.val from rfl, show (dats m S 0 c).Φ t.succ = Inv m S c (t.val + 1) from rfl, show (dats m S 0 c).owesAt () t.succ = (dats m S 0 c).owesAt () t.castSucc from rfl] <;> (try simp only [out_kept, out_idle' t ht11]) <;> unfold Inv
    all_goals
      iintro ⟨⟨%s, %hs, HA, Hg⟩, Ho, ⟨%e0, H0⟩, ⟨%d1, H1⟩, ⟨%d2, H2⟩, ⟨%d3, H3⟩, ⟨%d4, H4⟩, ⟨%d5, H5⟩, ⟨%d6, H6⟩, ⟨%d7, H7⟩⟩
      iapply (first_runs c t ((starts_iff t).mpr ht0) (fun h => ht11 ((ends_iff t).mp h)) (in0 m c t) (in1 m c t d1) (in2 m c t d2) (in3 m c t d3) (in4 m c t d4) (in5 m c t d5) (in6 m c t d6) _ Set.univ _)
      isplitl [HA]
      · unfold accsAt; icases HA with ⟨G0, G1, G2, G3, G4, G5, G6, G7⟩
        isplitl [G0]; · iexists _; iexact G0
        isplitl [G1]; · iexists _; iexact G1
        isplitl [G2]; · iexists _; iexact G2
        isplitl [G3]; · iexists _; iexact G3
        isplitl [G4]; · iexists _; iexact G4
        isplitl [G5]; · iexists _; iexact G5
        isplitl [G6]; · iexists _; iexact G6
        iexists _; iexact G7
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨HA, H0, H1, H2, H3, H4, H5, H6, H7⟩
      isplitl [HA Hg]
      · iexists (firstAccs c t ((starts_iff t).mpr ht0) (fun h => ht11 ((ends_iff t).mp h)) (in0 m c t) (in1 m c t d1) (in2 m c t d2) (in3 m c t d3) (in4 m c t d4) (in5 m c t d5) (in6 m c t d6)); isplitr
        · ipureintro; exact by rw [show t.val + 1 = 1 from by omega]; exact S.first c t ht0 _ _ d1 d2 d3 d4 d5 d6
        isplitl [HA]; · iexact HA
        iexact Hg
      isplitl [Ho]; · iexact Ho
      isplitl [H0]; · iexact H0
      isplitl [H1]; · iexists d1; iapply (back_1 m S c t d1); iexact H1
      isplitl [H2]; · iexists d2; iapply (back_2 m S c t d2); iexact H2
      isplitl [H3]; · iexists d3; iapply (back_3 m S c t d3); iexact H3
      isplitl [H4]; · iexists d4; iapply (back_4 m S c t d4); iexact H4
      isplitl [H5]; · iexists d5; iapply (back_5 m S c t d5); iexact H5
      isplitl [H6]; · iexists d6; iapply (back_6 m S c t d6); iexact H6
      iexists d7; iexact H7
  · by_cases ht11 : t.val = 11
    · cases hb : S.named <;> simp only [hb, Bool.not_false, Bool.not_true, out_live t ht11, show unnamed m S 0 = false from rfl, show unnamed m S 1 = false from rfl, show unnamed m S 2 = false from rfl, show unnamed m S 3 = false from rfl, show unnamed m S 4 = false from rfl, show unnamed m S 5 = false from rfl, show unnamed m S 6 = false from rfl, unnamed_7, show cfg0.idle 0 (cfg0.grid.coords t) = false from rfl, show cfg0.idle 1 (cfg0.grid.coords t) = false from rfl, show cfg0.idle 2 (cfg0.grid.coords t) = false from rfl, show cfg0.idle 3 (cfg0.grid.coords t) = false from rfl, show cfg0.idle 4 (cfg0.grid.coords t) = false from rfl, show cfg0.idle 5 (cfg0.grid.coords t) = false from rfl, show cfg0.idle 6 (cfg0.grid.coords t) = false from rfl, show cfg0.loose 1 = true from rfl, show cfg0.loose 2 = true from rfl, show cfg0.loose 3 = true from rfl, show cfg0.loose 4 = true from rfl, show cfg0.loose 5 = true from rfl, show cfg0.loose 6 = true from rfl, show cfg0.loose 0 = false from rfl, show cfg0.loose 7 = false from rfl, before_0, before_1, before_2, before_3, before_4, before_5, before_6, after_0, after_7, after_0, show (dats m S 0 c).Φ t.castSucc = Inv m S c t.val from rfl, show (dats m S 0 c).Φ t.succ = Inv m S c (t.val + 1) from rfl, show (dats m S 0 c).owesAt () t.succ = (dats m S 0 c).owesAt () t.castSucc from rfl] <;> (try simp only [out_kept, out_live' t ht11]) <;> unfold Inv
      all_goals
        iintro ⟨⟨%s, %hs, HA, Hg⟩, Ho, ⟨%e0, H0⟩, ⟨%d1, H1⟩, ⟨%d2, H2⟩, ⟨%d3, H3⟩, ⟨%d4, H4⟩, ⟨%d5, H5⟩, ⟨%d6, H6⟩, ⟨%d7, H7⟩⟩
        iapply (last_runs c t (fun h => ht0 ((starts_iff t).mp h)) ((ends_iff t).mpr ht11) (in0 m c t) (in1 m c t d1) (in2 m c t d2) (in3 m c t d3) (in4 m c t d4) (in5 m c t d5) (in6 m c t d6) s Set.univ _)
        isplitl [HA]; · iexact HA
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iintro ⟨HA, H0, H1, H2, H3, H4, H5, H6, H7⟩
        isplitl [HA Hg]
        · iexists (lastAccs c t (fun h => ht0 ((starts_iff t).mp h)) ((ends_iff t).mpr ht11) (in0 m c t) (in1 m c t d1) (in2 m c t d2) (in3 m c t d3) (in4 m c t d4) (in5 m c t d5) (in6 m c t d6) s); isplitr
          · ipureintro; exact by rw [show t.val + 1 = 12 from by omega]; exact S.last c t ht11 _ _ d1 d2 d3 d4 d5 d6 s (by rw [ht11] at hs; exact hs)
          isplitl [HA]; · iexact HA
          iexact Hg
        isplitl [Ho]; · iexact Ho
        isplitl [H0]; · iexact H0
        isplitl [H1]; · iexists d1; iapply (back_1 m S c t d1); iexact H1
        isplitl [H2]; · iexists d2; iapply (back_2 m S c t d2); iexact H2
        isplitl [H3]; · iexists d3; iapply (back_3 m S c t d3); iexact H3
        isplitl [H4]; · iexists d4; iapply (back_4 m S c t d4); iexact H4
        isplitl [H5]; · iexists d5; iapply (back_5 m S c t d5); iexact H5
        isplitl [H6]; · iexists d6; iapply (back_6 m S c t d6); iexact H6
        first | (iexists _; iexact H7) | (rw [S.ends c t ht11 _ _ d1 d2 d3 d4 d5 d6 s (by rw [ht11] at hs; exact hs) hb]; iexact H7)
    · cases hb : S.named <;> simp only [hb, Bool.not_false, Bool.not_true, out_idle t ht11, out_kept t ht11, show unnamed m S 0 = false from rfl, show unnamed m S 1 = false from rfl, show unnamed m S 2 = false from rfl, show unnamed m S 3 = false from rfl, show unnamed m S 4 = false from rfl, show unnamed m S 5 = false from rfl, show unnamed m S 6 = false from rfl, unnamed_7, show cfg0.idle 0 (cfg0.grid.coords t) = false from rfl, show cfg0.idle 1 (cfg0.grid.coords t) = false from rfl, show cfg0.idle 2 (cfg0.grid.coords t) = false from rfl, show cfg0.idle 3 (cfg0.grid.coords t) = false from rfl, show cfg0.idle 4 (cfg0.grid.coords t) = false from rfl, show cfg0.idle 5 (cfg0.grid.coords t) = false from rfl, show cfg0.idle 6 (cfg0.grid.coords t) = false from rfl, show cfg0.loose 1 = true from rfl, show cfg0.loose 2 = true from rfl, show cfg0.loose 3 = true from rfl, show cfg0.loose 4 = true from rfl, show cfg0.loose 5 = true from rfl, show cfg0.loose 6 = true from rfl, show cfg0.loose 0 = false from rfl, show cfg0.loose 7 = false from rfl, before_0, before_1, before_2, before_3, before_4, before_5, before_6, after_0, after_7, after_0, show (dats m S 0 c).Φ t.castSucc = Inv m S c t.val from rfl, show (dats m S 0 c).Φ t.succ = Inv m S c (t.val + 1) from rfl, show (dats m S 0 c).owesAt () t.succ = (dats m S 0 c).owesAt () t.castSucc from rfl] <;> (try simp only [out_kept, out_idle' t ht11]) <;> unfold Inv
      all_goals
        iintro ⟨⟨%s, %hs, HA, Hg⟩, Ho, ⟨%e0, H0⟩, ⟨%d1, H1⟩, ⟨%d2, H2⟩, ⟨%d3, H3⟩, ⟨%d4, H4⟩, ⟨%d5, H5⟩, ⟨%d6, H6⟩, ⟨%d7, H7⟩⟩
        iapply (mid_runs c t (fun h => ht0 ((starts_iff t).mp h)) (fun h => ht11 ((ends_iff t).mp h)) (in0 m c t) (in1 m c t d1) (in2 m c t d2) (in3 m c t d3) (in4 m c t d4) (in5 m c t d5) (in6 m c t d6) s _ Set.univ _)
        isplitl [HA]; · iexact HA
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iintro ⟨HA, H0, H1, H2, H3, H4, H5, H6, H7⟩
        isplitl [HA Hg]
        · iexists (midAccs c t (fun h => ht0 ((starts_iff t).mp h)) (fun h => ht11 ((ends_iff t).mp h)) (in0 m c t) (in1 m c t d1) (in2 m c t d2) (in3 m c t d3) (in4 m c t d4) (in5 m c t d5) (in6 m c t d6) s); isplitr
          · ipureintro; exact S.mid c t ht0 ht11 _ _ d1 d2 d3 d4 d5 d6 s hs
          isplitl [HA]; · iexact HA
          iexact Hg
        isplitl [Ho]; · iexact Ho
        isplitl [H0]; · iexact H0
        isplitl [H1]; · iexists d1; iapply (back_1 m S c t d1); iexact H1
        isplitl [H2]; · iexists d2; iapply (back_2 m S c t d2); iexact H2
        isplitl [H3]; · iexists d3; iapply (back_3 m S c t d3); iexact H3
        isplitl [H4]; · iexists d4; iapply (back_4 m S c t d4); iexact H4
        isplitl [H5]; · iexists d5; iapply (back_5 m S c t d5); iexact H5
        isplitl [H6]; · iexists d6; iapply (back_6 m S c t d6); iexact H6
        iexists d7; iexact H7

end Cert.KernelIdeal.Body

end
-- ==== Proof.Launches.lean ====
module

public import proofs.«01_k».proof.Proof.Story

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (S : Story m) in
theorem inv_start (c : Dev nD) : (Pipeline.ΦA spec0 c : sProp 𝕄) ⊢ (dats m S 0 c).Φ 0 := by
  rw [show (dats m S 0 c).Φ 0 = Inv m S c 0 from rfl, rest_eq]
  unfold Inv accsAt
  iintro ⟨⟨⟨%d0, G0⟩, ⟨%d1, G1⟩, ⟨%d2, G2⟩, ⟨%d3, G3⟩, ⟨%d4, G4⟩, ⟨%d5, G5⟩, ⟨%d6, G6⟩, ⟨%d7, G7⟩⟩, Hg⟩
  iexists (fun | 0 => d0 | 1 => d1 | 2 => d2 | 3 => d3 | 4 => d4 | 5 => d5 | 6 => d6 | 7 => d7)
  isplitr
  · ipureintro; exact S.start c _
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  iexact Hg

variable (S : Story m) in
theorem inv_end (c : Dev nD) : (dats m S 0 c).Φ (Fin.last cfg0.N) ⊢ (Pipeline.ΦA spec0 c : sProp 𝕄) := by
  rw [show (dats m S 0 c).Φ (Fin.last cfg0.N) = Inv m S c cfg0.N from rfl, rest_eq]
  unfold Inv accsAt
  iintro ⟨%s, %hs, ⟨G0, G1, G2, G3, G4, G5, G6, G7⟩, Hg⟩
  isplitr [Hg]
  · isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    iexists _; iexact G7
  iexact Hg

/-- The story that says nothing: it holds of any floats. -/
def silent : Story m where
  fits _ _ _ := True
  result _ _ := (FloatOps.ofBits .f32 0#32 : F .f32)
  named := false
  start _ _ := trivial
  first := by intros; trivial
  mid := by intros; trivial
  last := by intros; trivial
  ends := by intro _ _ _ _ _ _ _ _ _ _ _ _ _ h; exact absurd h (by decide)

/-- The buffer the line after the region writes. -/
def written : Finset (Ref sig .tc) := {main_v8}

theorem tail_writes : ∀ ops ∈ ([hostOps1] : List (List (HloOp τ sig (Elt F)))), ∀ op ∈ ops, ∀ b : Ref sig .tc, Proc.devRef .tc b ∈ op.writes → b ∈ written := by
  intro ops h op hop b hb
  rw [List.mem_singleton] at h; subst h
  rw [List.mem_singleton] at hop; subst hop
  have e : Proc.devRef (τ := τ) .tc b = Proc.devRef .tc main_v8 := by simpa using hb
  exact Finset.mem_singleton.mpr (Proc.devRef_injective _ e)

set_option backward.isDefEq.respectTransparency.types false in
set_option maxHeartbeats 800000 in
/-- The program runs to its end from any memory, changes no argument, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono ?_ (Pipeline.θ_run_frame_around_T_track_forget (Q' := fun r => Pipeline.RDat.FramePostR cfg0 (fun c => (dats m (silent m) 0 c).toRForget (unnamed m (silent m))) written (fun c b => V0 m c (Proc.devRef .tc b)) r ∧ r.2.sem = fun _ => 0)
    cfgs (dats m (silent m)) (0 : Fin 1) launch0 defs₀ Variants.none (unnamed m (silent m)) written m ρ main
    (hbody := body_obligation m (silent m)) (hshare := fun c => (dats m (silent m) 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m (silent m)) (hin := inv_start m (silent m)) (hout := inv_end m (silent m)))
  intro r h
  refine ⟨fun c => ⟨?_, ?_, ?_, ?_, ?_, ?_, ?_, ?_, ?_⟩, h.2⟩
  · exact ((h.1 c).2 main_arg0 (Finset.mem_sdiff.mpr ⟨Pipeline.mem_restRefs_of main_arg0 (by decide) (by decide), by decide⟩)).trans (V_main_arg0 m c)
  · exact ((h.1 c).2 main_arg1 (Finset.mem_sdiff.mpr ⟨Pipeline.mem_restRefs_of main_arg1 (by decide) (by decide), by decide⟩)).trans (V_main_arg1 m c)
  · exact ((h.1 c).2 main_arg2 (Finset.mem_sdiff.mpr ⟨Pipeline.mem_restRefs_of main_arg2 (by decide) (by decide), by decide⟩)).trans (V_main_arg2 m c)
  · exact ((h.1 c).2 main_arg3 (Finset.mem_sdiff.mpr ⟨Pipeline.mem_restRefs_of main_arg3 (by decide) (by decide), by decide⟩)).trans (V_main_arg3 m c)
  · exact ((h.1 c).2 main_arg4 (Finset.mem_sdiff.mpr ⟨Pipeline.mem_restRefs_of main_arg4 (by decide) (by decide), by decide⟩)).trans (V_main_arg4 m c)
  · exact ((h.1 c).2 main_arg5 (Finset.mem_sdiff.mpr ⟨Pipeline.mem_restRefs_of main_arg5 (by decide) (by decide), by decide⟩)).trans (V_main_arg5 m c)
  · exact ((h.1 c).2 main_arg6 (Finset.mem_sdiff.mpr ⟨Pipeline.mem_restRefs_of main_arg6 (by decide) (by decide), by decide⟩)).trans (V_main_arg6 m c)
  · exact ((h.1 c).2 main_arg7 (Finset.mem_sdiff.mpr ⟨Pipeline.mem_restRefs_of main_arg7 (by decide) (by decide), by decide⟩)).trans (V_main_arg7 m c)
  · exact ((h.1 c).2 main_arg8 (Finset.mem_sdiff.mpr ⟨Pipeline.mem_restRefs_of main_arg8 (by decide) (by decide), by decide⟩)).trans (V_main_arg8 m c)

set_option backward.isDefEq.respectTransparency.types false in
set_option maxHeartbeats 800000 in
/-- The same run, when the story names the result. -/
theorem named_run (S : Story m) (hS : S.named = true) :
    θ_run defs (onTc (τ := τ) (main (F := F))) (s₀ m ρ) (Pipeline.FramePost cfgs (dats m S) 0 (Pipeline.afterTail₀ cfgs (dats m S) 0 (V0 m) [hostOps1])) :=
  Pipeline.θ_run_frame_around_track (Q' := _) cfgs (dats m S) (0 : Fin 1) launch0 defs₀ Variants.none m ρ main
    (hbody := fun c => by have h := body_obligation m S c; rwa [show unnamed m S = fun _ => false from by funext w; simp [unnamed, hS]] at h)
    (hshare := fun c => (dats m S 0 c).share_full fun _ => rfl)
    (howed := fun _ _ => rfl) (V₀ := V0 m) (opss := [hostOps1]) (hsub := sfx_sub) (hfresh := sfx_fresh) (hkeep := sfx_keeps)
    (hmain := hmain m Variants.none) (hA := A_eq m S) (hin := inv_start m S) (hout := inv_end m S)

end Cert.KernelIdeal.Body

end
-- ==== Proof.Frames.lean ====
module

public import proofs.«01_k».proof.Defs
public import proofs.«01_k».proof.Proof.Same
public import proofs.«01_k».proof.Proof.Launches
public import proofs.«01_k».proof.Proof.Gen.ReferenceIdeal.Run

@[expose] public section

/-! Each program runs to its end from any memory, leaves its arguments as they were and every counter at zero. -/

noncomputable section

namespace Cert.Frames

open Idealize.ShloMosaic Idealize.SL.Sem

/-- The kernel. -/
theorem kernel : quiescent_Kernel (hKernel := Cert.Kernel.Gen.facts) :=
  Cert.Same.kernel_of_ideal fun m g => Cert.KernelIdeal.Body.frame (F := Bits) m g

/-- The ideal kernel. -/
theorem kernelIdeal : quiescent_KernelIdeal (hKernelIdeal := Cert.KernelIdeal.Gen.facts) :=
  fun m g _ => Cert.KernelIdeal.Body.frame (F := Ideal) m g

/-- The reference, which declares no counter. -/
theorem referenceIdeal : quiescent_ReferenceIdeal (hReferenceIdeal := Cert.ReferenceIdeal.Gen.facts) := by
  intro m g _
  letI := Cert.ReferenceIdeal.Gen.facts
  exact (θ_run Cert.ReferenceIdeal.defs _ _).mono (fun r h => ⟨fun c => (h c).2, sem_eq_zero_of_no_sems (by decide) r.2⟩)
    (Cert.ReferenceIdeal.Value.run (F := Ideal) m g)

end Cert.Frames

end
-- ==== Proof.Block.lean ====
module

public import proofs.«01_k».proof.Proof.Launches
public import Idealize.ShloMosaic.Lib.ValueLayout
public import Idealize.ShloMosaic.Lib.WholeRead
public import Idealize.ShloMosaic.Lib.Pointwise.Index
public import Idealize.ShloMosaic.Lib.Pipeline.ValueKit.Tiles
public import Idealize.ShloMosaic.Lib.Pipeline.ValueKit.Acc

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## One block, as the body computes it

The body's text, written once from the values it loads: the masks, the sum over the classes, the location errors and
the eight running sums. The three shapes of a point are each shown to compute this. -/

/-- The values a point loads: the mixing weight, the class planes of the three score blocks and the three location
blocks. -/
structure Blk (F : FTy → Type) [FloatOps F] where
  lam : Elt F .f32
  c : Fin 21 → Vec F S1x8x2944 .f32
  t : Fin 21 → Vec F S1x8x2944 .f32
  i : Fin 21 → Vec F S1x8x2944 .f32
  lo : Vec F S8x4x2944 .f32
  ls : Vec F S8x4x2944 .f32
  li : Vec F S8x4x2944 .f32

/-- The greatest of the first `n + 1` planes. -/
def top (x : Fin 21 → Vec F S1x8x2944 .f32) : (n : ℕ) → n < 21 → FVec F S8x2944 .f32
  | 0, h => shapeCast S8x2944 (x ⟨0, h⟩) shapeCasts_S1x8x2944_S8x2944
  | n + 1, h => maximumf (top x n (Nat.lt_of_succ_lt h)) (shapeCast S8x2944 (x ⟨n + 1, h⟩) shapeCasts_S1x8x2944_S8x2944)

/-- A row is foreground: some class beats the background. -/
def fore (x : Fin 21 → Vec F S1x8x2944 .f32) : IVec S8x2944 1 :=
  cmpf .ogt (top x 20 (by decide)) (shapeCast S8x2944 (x 0) shapeCasts_S1x8x2944_S8x2944)

/-- The lanes that lie in the array, on every row. -/
def lanes (j : grid0.Coords) : IVec S8x2944 1 := broadcastTo S8x2944 (k0_pay22 j) broadcasts_S1x2944_S8x2944

namespace Blk

variable (b : Blk F) (j : grid0.Coords)

/-- Rows foreground on both sides. -/
def bi : IVec S8x2944 1 := andi (andi (fore b.c) (fore b.t)) (lanes j)
/-- Rows foreground on the left only. -/
def bl : IVec S8x2944 1 := andi (andi (fore b.c) (xori (fore b.t) (constantI S8x2944 1 1#1))) (lanes j)
/-- Rows foreground on the right only. -/
def br : IVec S8x2944 1 := andi (andi (fore b.t) (xori (fore b.c) (constantI S8x2944 1 1#1))) (lanes j)
/-- A mask as weights. -/
def weight (m : IVec S8x2944 1) : FVec F S8x2944 .f32 := sitofp .f32 (extui 32 m natLt_1_32)

/-- The sum over the first `n` classes. -/
def upTo : (n : ℕ) → n ≤ 21 → FVec F S8x2944 .f32
  | 0, _ => k0_pay42
  | n + 1, h => k0_pay43 b.lam (k0_pay22 j) (b.bi j) (b.bl j) (b.br j) (ori (b.bl j) (b.br j)) (upTo n (Nat.le_of_succ_le h)) (b.c ⟨n, h⟩) (b.t ⟨n, h⟩) (b.i ⟨n, h⟩)

/-- The sum over the classes. -/
def kl : FVec F S8x2944 .f32 := b.upTo j 21 le_rfl

/-- The eight running sums after the block. -/
def step (s : Accs F) : Accs F
  | 0 => k0_pay137 (weight (b.bi j)) (b.kl j) (s 0)
  | 1 => k0_pay138 (weight (b.bl j)) (b.kl j) (s 1)
  | 2 => k0_pay139 (weight (b.br j)) (b.kl j) (s 2)
  | 3 => k0_pay140 (weight (b.bl j)) (k0_pay135 (k0_pay22 j) (k0_pay131 b.lo) b.li) (s 3)
  | 4 => k0_pay141 (weight (b.br j)) (k0_pay136 (k0_pay22 j) (k0_pay132 b.ls) b.li) (s 4)
  | 5 => k0_pay1 (k0_pay142 (weight (b.bi j)) (s 5))
  | 6 => k0_pay2 (weight (b.bl j)) (s 6)
  | 7 => k0_pay3 (weight (b.br j)) (s 7)

end Blk

/-! ## The classes

The text folds the classes in one after another, cutting the arithmetic of one class at different places; each is the
first class's text. -/

section
variable (w : Elt F .f32) (v : IVec S1x2944 1) (mb ml mr mx : IVec S8x2944 1) (a : FVec F S8x2944 .f32) (c t i c' t' i' : Vec F S1x8x2944 .f32)
theorem class_1 : k0_pay46 w v mb ml mr mx a (k0_pay44 c) (k0_pay45 t) i = k0_pay43 w v mb ml mr mx a c t i := rfl
theorem class_2 : k0_pay51 w mb ml mr mx a (k0_pay47 c) (k0_pay48 t) (k0_pay49 v i) k0_pay50 = k0_pay43 w v mb ml mr mx a c t i := rfl
theorem class_3 : k0_pay56 mb ml mr mx a (k0_pay52 c) (k0_pay53 t) (k0_pay54 v i) (k0_pay55 w c t) (FloatOps.ofBits .f32 869711765#32) = k0_pay43 w v mb ml mr mx a c t i := rfl
theorem class_4 : k0_pay64 mb ml mr mx a (k0_pay59 v i) (k0_pay60 w c t) (k0_pay61 w v mb c t i) (k0_pay62 c) (k0_pay63 t) = k0_pay43 w v mb ml mr mx a c t i := rfl
theorem class_5_6 : k0_pay72 w v mb ml mr mx a (k0_pay70 w v mb ml mr mx c t i) (k0_pay71 w v mb ml mr c t i) c' t' i' = k0_pay43 w v mb ml mr mx (k0_pay43 w v mb ml mr mx a c t i) c' t' i' := rfl
theorem class_7 : k0_pay74 w v mb ml mr mx a (k0_pay73 c) t i = k0_pay43 w v mb ml mr mx a c t i := rfl
theorem class_8 : k0_pay78 w v mb ml mr mx a (k0_pay75 c) (k0_pay76 t) (k0_pay77 i) (FloatOps.ofBits .f32 1056964608#32) = k0_pay43 w v mb ml mr mx a c t i := rfl
theorem class_9 : k0_pay83 w mb ml mr mx a (k0_pay79 c) (k0_pay80 t) (k0_pay81 v i) (k0_pay82 w c) = k0_pay43 w v mb ml mr mx a c t i := rfl
theorem class_10 : k0_pay89 mb ml mr mx a (k0_pay84 c) (k0_pay85 t) (k0_pay86 v i) (k0_pay87 w c t) (k0_pay88 w v mb c t i) = k0_pay43 w v mb ml mr mx a c t i := rfl
theorem class_11_12 : k0_pay97 w v mb ml mr mx a (k0_pay94 w v mb c t i) (k0_pay95 v ml mr c t i) (k0_pay96 w v c t i) c' t' i' = k0_pay43 w v mb ml mr mx (k0_pay43 w v mb ml mr mx a c t i) c' t' i' := rfl
theorem class_13 : k0_pay98 w v mb ml mr mx a c t i = k0_pay43 w v mb ml mr mx a c t i := rfl
theorem class_14 : k0_pay101 w v mb ml mr mx a (k0_pay99 c) (k0_pay100 t) i = k0_pay43 w v mb ml mr mx a c t i := rfl
theorem class_15 : k0_pay107 w mb ml mr mx a (k0_pay102 c) (k0_pay103 t) (k0_pay104 i) (k0_pay105 v) k0_pay106 = k0_pay43 w v mb ml mr mx a c t i := rfl
theorem class_16 : k0_pay113 mb ml mr mx a (k0_pay108 c) (k0_pay109 t) (k0_pay110 v i) (k0_pay111 w c) (k0_pay112 w) = k0_pay43 w v mb ml mr mx a c t i := rfl
theorem class_17 : k0_pay120 mb ml mr mx a (k0_pay115 t) (k0_pay116 v i) (k0_pay117 w c t) (k0_pay118 w v mb c t i) (k0_pay119 c) = k0_pay43 w v mb ml mr mx a c t i := rfl
theorem class_18_19 : k0_pay129 w v mb ml mr mx a (k0_pay125 w v mb c t i) (k0_pay126 v ml mr c t i) (k0_pay127 w v c t i) (k0_pay128 v ml mr mx c t i) c' t' i' = k0_pay43 w v mb ml mr mx (k0_pay43 w v mb ml mr mx a c t i) c' t' i' := rfl
theorem class_20 : k0_pay130 w v mb ml mr mx a c t i = k0_pay43 w v mb ml mr mx a c t i := rfl
end

/-- Class `k`'s plane of a score block. -/
def plane (x : Vec F S21x8x2944 .f32) (k : ℕ) : Vec F S1x8x2944 .f32 := fun y => x (ix3 (⟨k % 21, Nat.mod_lt _ (by decide)⟩ : Fin 21) (y 1) (y 2))

/-- A load of one class's plane reads it. -/
theorem load_plane {sp : Space} (a : Memref sig .tc sp S21x8x2944 .f32) (h : a.IsWhole) (x : Vec F S21x8x2944 .f32) (k : ℕ)
    (inb : ∀ a, (![k, 0, 0] : Fin 3 → ℕ) a + (![1, 8, 2944] : Fin 3 → ℕ) a ≤ S21x8x2944.size a) :
    View.readAt (Elt F) a.view (Rect.unit (s := S21x8x2944) ![k, 0, 0] ![1, 8, 2944] inb).toLoadRect (h.unread x) = plane x k := by
  funext y
  rw [Memref.IsWhole.readAt_unread]
  have hk : k + 1 ≤ 21 := inb 0
  have hy : (y 0).val < 1 := (y 0).isLt
  refine congrArg x (funext fun a => Fin.ext ?_)
  fin_cases a
  · refine (Rect.idx_unit_val _ _ _ _ _).trans ?_
    show k + (y 0).val = k % 21
    rw [Nat.mod_eq_of_lt (by omega)]; omega
  · exact (Rect.idx_unit_val _ _ _ _ _).trans (Nat.zero_add _)
  · exact (Rect.idx_unit_val _ _ _ _ _).trans (Nat.zero_add _)

/-- A load of a whole location block reads it. -/
theorem load_loc {sp : Space} (a : Memref sig .tc sp S8x4x2944 .f32) (h : a.IsWhole) (x : Vec F S8x4x2944 .f32)
    (inb : ∀ a, (![0, 0, 0] : Fin 3 → ℕ) a + (![8, 4, 2944] : Fin 3 → ℕ) a ≤ S8x4x2944.size a) :
    View.readAt (Elt F) a.view (Rect.unit (s := S8x4x2944) ![0, 0, 0] ![8, 4, 2944] inb).toLoadRect (h.unread x) = x := by
  funext y
  rw [Memref.IsWhole.readAt_unread]
  refine congrArg x (funext fun a => Fin.ext ?_)
  fin_cases a
  · exact (Rect.idx_unit_val _ _ _ _ _).trans (Nat.zero_add _)
  · exact (Rect.idx_unit_val _ _ _ _ _).trans (Nat.zero_add _)
  · exact (Rect.idx_unit_val _ _ _ _ _).trans (Nat.zero_add _)

/-- A load of a whole running sum reads it. -/
theorem load_acc {sp : Space} (a : Memref sig .tc sp S8x2944 .f32) (h : a.IsWhole) (x : Vec F S8x2944 .f32)
    (inb : ∀ a, (![0, 0] : Fin 2 → ℕ) a + (![8, 2944] : Fin 2 → ℕ) a ≤ S8x2944.size a) :
    View.readAt (Elt F) a.view (Rect.unit (s := S8x2944) ![0, 0] ![8, 2944] inb).toLoadRect (h.unread x) = x := by
  funext y
  rw [Memref.IsWhole.readAt_unread]
  refine congrArg x (funext fun a => Fin.ext ?_)
  fin_cases a
  · exact (Rect.idx_unit_val _ _ _ _ _).trans (Nat.zero_add _)
  · exact (Rect.idx_unit_val _ _ _ _ _).trans (Nat.zero_add _)

/-- The load of the mixing weight reads the one entry. -/
theorem load_lam {sp : Space} (a : Memref sig .tc sp S1x1 .f32) (h : a.IsWhole) (x : Vec F S1x1 .f32)
    (inb : ∀ a, (![0, 0] : Fin 2 → ℕ) a + (![1, 1] : Fin 2 → ℕ) a ≤ S1x1.size a) (y : (⟨2, ![1, 1]⟩ : Shape).Idx) :
    View.readAt (Elt F) a.view (Rect.unit (s := S1x1) ![0, 0] ![1, 1] inb).toLoadRect (h.unread x) y = x (ix2 (0 : Fin 1) (0 : Fin 1)) := by
  rw [Memref.IsWhole.readAt_unread]
  refine congrArg x (funext fun a => ?_)
  fin_cases a <;> exact Subsingleton.elim (α := Fin 1) _ _

/-- The block of a point, from the contents of its seven buffers. -/
def blk (x0 : Vec F S1x1 .f32) (x1 x2 x3 : Vec F S21x8x2944 .f32) (x4 x5 x6 : Vec F S8x4x2944 .f32) : Blk F where
  lam := x0 (ix2 (0 : Fin 1) (0 : Fin 1))
  c k := plane x1 k
  t k := plane x2 k
  i k := plane x3 k
  lo := x4
  ls := x5
  li := x6

variable (a2 : Memref sig .tc .smem S1x1 .f32) (h2 : a2.IsWhole) (a3 a4 a5 : Memref sig .tc .vmem S21x8x2944 .f32) (h3 : a3.IsWhole) (h4 : a4.IsWhole) (h5 : a5.IsWhole) (a6 a7 a8 : Memref sig .tc .vmem S8x4x2944 .f32) (h6 : a6.IsWhole) (h7 : a7.IsWhole) (h8 : a8.IsWhole)
  (x0 : Vec F S1x1 .f32) (x1 x2 x3 : Vec F S21x8x2944 .f32) (x4 x5 x6 : Vec F S8x4x2944 .f32)
variable (c : Dev nD) (j : grid0.Coords)

theorem blk_lam : ((blk x0 x1 x2 x3 x4 x5 x6)).lam = x0 (ix2 (0 : Fin 1) (0 : Fin 1)) := rfl
theorem blk_c : ((blk x0 x1 x2 x3 x4 x5 x6)).c = fun k => plane x1 k.val := rfl
theorem blk_t : ((blk x0 x1 x2 x3 x4 x5 x6)).t = fun k => plane x2 k.val := rfl
theorem blk_i : ((blk x0 x1 x2 x3 x4 x5 x6)).i = fun k => plane x3 k.val := rfl

theorem both_mid : runMid.sl.r_15 c j a3 h3 a4 h4 x1 x2 = ((blk x0 x1 x2 x3 x4 x5 x6)).bi j := by
  simp only [runMid.sl.r_1, runMid.sl.r_2, runMid.sl.r_3, runMid.sl.r_4, runMid.sl.r_5, runMid.sl.r_6, runMid.sl.r_7, runMid.sl.r_8, runMid.sl.r_9, runMid.sl.r_10, runMid.sl.r_11, runMid.sl.r_12, runMid.sl.r_13, runMid.sl.r_14, runMid.sl.r_15, load_plane]
  rfl

theorem left_mid : runMid.sl.r_16 c j a3 h3 a4 h4 x1 x2 = ((blk x0 x1 x2 x3 x4 x5 x6)).bl j := by
  simp only [runMid.sl.r_1, runMid.sl.r_2, runMid.sl.r_3, runMid.sl.r_4, runMid.sl.r_5, runMid.sl.r_6, runMid.sl.r_7, runMid.sl.r_8, runMid.sl.r_9, runMid.sl.r_10, runMid.sl.r_11, runMid.sl.r_12, runMid.sl.r_13, runMid.sl.r_14, runMid.sl.r_16, load_plane]
  rfl

theorem right_mid : runMid.sl.r_17 c j a3 h3 a4 h4 x1 x2 = ((blk x0 x1 x2 x3 x4 x5 x6)).br j := by
  simp only [runMid.sl.r_1, runMid.sl.r_2, runMid.sl.r_3, runMid.sl.r_4, runMid.sl.r_5, runMid.sl.r_6, runMid.sl.r_7, runMid.sl.r_8, runMid.sl.r_9, runMid.sl.r_10, runMid.sl.r_11, runMid.sl.r_12, runMid.sl.r_13, runMid.sl.r_14, runMid.sl.r_17, load_plane]
  rfl

theorem either_mid : runMid.sl.r_21 c j a3 h3 a4 h4 x1 x2 = ori (((blk x0 x1 x2 x3 x4 x5 x6)).bl j) (((blk x0 x1 x2 x3 x4 x5 x6)).br j) := by
  simp only [runMid.sl.r_1, runMid.sl.r_2, runMid.sl.r_3, runMid.sl.r_4, runMid.sl.r_5, runMid.sl.r_6, runMid.sl.r_7, runMid.sl.r_8, runMid.sl.r_9, runMid.sl.r_10, runMid.sl.r_11, runMid.sl.r_12, runMid.sl.r_13, runMid.sl.r_14, runMid.sl.r_21, load_plane]
  rfl

theorem wboth_mid : runMid.sl.r_18 c j a3 h3 a4 h4 x1 x2 = Blk.weight (((blk x0 x1 x2 x3 x4 x5 x6)).bi j) := by
  simp only [runMid.sl.r_1, runMid.sl.r_2, runMid.sl.r_3, runMid.sl.r_4, runMid.sl.r_5, runMid.sl.r_6, runMid.sl.r_7, runMid.sl.r_8, runMid.sl.r_9, runMid.sl.r_10, runMid.sl.r_11, runMid.sl.r_12, runMid.sl.r_13, runMid.sl.r_14, runMid.sl.r_18, load_plane]
  rfl

theorem wleft_mid : runMid.sl.r_19 c j a3 h3 a4 h4 x1 x2 = Blk.weight (((blk x0 x1 x2 x3 x4 x5 x6)).bl j) := by
  simp only [runMid.sl.r_1, runMid.sl.r_2, runMid.sl.r_3, runMid.sl.r_4, runMid.sl.r_5, runMid.sl.r_6, runMid.sl.r_7, runMid.sl.r_8, runMid.sl.r_9, runMid.sl.r_10, runMid.sl.r_11, runMid.sl.r_12, runMid.sl.r_13, runMid.sl.r_14, runMid.sl.r_19, load_plane]
  rfl

theorem wright_mid : runMid.sl.r_20 c j a3 h3 a4 h4 x1 x2 = Blk.weight (((blk x0 x1 x2 x3 x4 x5 x6)).br j) := by
  simp only [runMid.sl.r_1, runMid.sl.r_2, runMid.sl.r_3, runMid.sl.r_4, runMid.sl.r_5, runMid.sl.r_6, runMid.sl.r_7, runMid.sl.r_8, runMid.sl.r_9, runMid.sl.r_10, runMid.sl.r_11, runMid.sl.r_12, runMid.sl.r_13, runMid.sl.r_14, runMid.sl.r_20, load_plane]
  rfl

theorem kl_mid : runMid.sl.r_93 c j a2 h2 a3 h3 a4 h4 a5 h5 x0 x1 x2 x3 = ((blk x0 x1 x2 x3 x4 x5 x6)).kl j := by
  simp only [runMid.sl.r_22, runMid.sl.r_23, runMid.sl.r_24, runMid.sl.r_25, runMid.sl.r_26, runMid.sl.r_27, runMid.sl.r_28, runMid.sl.r_29, runMid.sl.r_30, runMid.sl.r_31, runMid.sl.r_32, runMid.sl.r_33, runMid.sl.r_34, runMid.sl.r_35, runMid.sl.r_36, runMid.sl.r_37, runMid.sl.r_38, runMid.sl.r_39, runMid.sl.r_40, runMid.sl.r_41, runMid.sl.r_42, runMid.sl.r_43, runMid.sl.r_44, runMid.sl.r_45, runMid.sl.r_46, runMid.sl.r_47, runMid.sl.r_48, runMid.sl.r_49, runMid.sl.r_50, runMid.sl.r_51, runMid.sl.r_52, runMid.sl.r_53, runMid.sl.r_54, runMid.sl.r_55, runMid.sl.r_56, runMid.sl.r_57, runMid.sl.r_58, runMid.sl.r_59, runMid.sl.r_60, runMid.sl.r_61, runMid.sl.r_62, runMid.sl.r_63, runMid.sl.r_64, runMid.sl.r_65, runMid.sl.r_66, runMid.sl.r_67, runMid.sl.r_68, runMid.sl.r_69, runMid.sl.r_70, runMid.sl.r_71, runMid.sl.r_72, runMid.sl.r_73, runMid.sl.r_74, runMid.sl.r_75, runMid.sl.r_76, runMid.sl.r_77, runMid.sl.r_78, runMid.sl.r_79, runMid.sl.r_80, runMid.sl.r_81, runMid.sl.r_82, runMid.sl.r_83, runMid.sl.r_84, runMid.sl.r_85, runMid.sl.r_86, runMid.sl.r_87, runMid.sl.r_88, runMid.sl.r_89, runMid.sl.r_90, runMid.sl.r_91, runMid.sl.r_92, runMid.sl.r_93, runMid.sl.r, runMid.sl.cst_171, runMid.sl.cst_248, class_1, class_2, class_3, class_4, class_5_6, class_7, class_8, class_9, class_10, class_11_12, class_13, class_14, class_15, class_16, class_17, class_18_19, class_20, load_plane, load_lam,
    both_mid (x0 := x0) (x3 := x3) (x4 := x4) (x5 := x5) (x6 := x6), left_mid (x0 := x0) (x3 := x3) (x4 := x4) (x5 := x5) (x6 := x6), right_mid (x0 := x0) (x3 := x3) (x4 := x4) (x5 := x5) (x6 := x6), either_mid (x0 := x0) (x3 := x3) (x4 := x4) (x5 := x5) (x6 := x6)]
  simp only [Blk.kl, Blk.upTo, blk_lam, blk_c, blk_t, blk_i]

theorem both_first : runFirst.sl.r_15 c j a3 h3 a4 h4 x1 x2 = ((blk x0 x1 x2 x3 x4 x5 x6)).bi j := by
  simp only [runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, load_plane]
  rfl

theorem left_first : runFirst.sl.r_16 c j a3 h3 a4 h4 x1 x2 = ((blk x0 x1 x2 x3 x4 x5 x6)).bl j := by
  simp only [runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_16, load_plane]
  rfl

theorem right_first : runFirst.sl.r_17 c j a3 h3 a4 h4 x1 x2 = ((blk x0 x1 x2 x3 x4 x5 x6)).br j := by
  simp only [runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_17, load_plane]
  rfl

theorem either_first : runFirst.sl.r_21 c j a3 h3 a4 h4 x1 x2 = ori (((blk x0 x1 x2 x3 x4 x5 x6)).bl j) (((blk x0 x1 x2 x3 x4 x5 x6)).br j) := by
  simp only [runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_21, load_plane]
  rfl

theorem wboth_first : runFirst.sl.r_18 c j a3 h3 a4 h4 x1 x2 = Blk.weight (((blk x0 x1 x2 x3 x4 x5 x6)).bi j) := by
  simp only [runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_18, load_plane]
  rfl

theorem wleft_first : runFirst.sl.r_19 c j a3 h3 a4 h4 x1 x2 = Blk.weight (((blk x0 x1 x2 x3 x4 x5 x6)).bl j) := by
  simp only [runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_19, load_plane]
  rfl

theorem wright_first : runFirst.sl.r_20 c j a3 h3 a4 h4 x1 x2 = Blk.weight (((blk x0 x1 x2 x3 x4 x5 x6)).br j) := by
  simp only [runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_20, load_plane]
  rfl

theorem kl_first : runFirst.sl.r_93 c j a2 h2 a3 h3 a4 h4 a5 h5 x0 x1 x2 x3 = ((blk x0 x1 x2 x3 x4 x5 x6)).kl j := by
  simp only [runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.r_42, runFirst.sl.r_43, runFirst.sl.r_44, runFirst.sl.r_45, runFirst.sl.r_46, runFirst.sl.r_47, runFirst.sl.r_48, runFirst.sl.r_49, runFirst.sl.r_50, runFirst.sl.r_51, runFirst.sl.r_52, runFirst.sl.r_53, runFirst.sl.r_54, runFirst.sl.r_55, runFirst.sl.r_56, runFirst.sl.r_57, runFirst.sl.r_58, runFirst.sl.r_59, runFirst.sl.r_60, runFirst.sl.r_61, runFirst.sl.r_62, runFirst.sl.r_63, runFirst.sl.r_64, runFirst.sl.r_65, runFirst.sl.r_66, runFirst.sl.r_67, runFirst.sl.r_68, runFirst.sl.r_69, runFirst.sl.r_70, runFirst.sl.r_71, runFirst.sl.r_72, runFirst.sl.r_73, runFirst.sl.r_74, runFirst.sl.r_75, runFirst.sl.r_76, runFirst.sl.r_77, runFirst.sl.r_78, runFirst.sl.r_79, runFirst.sl.r_80, runFirst.sl.r_81, runFirst.sl.r_82, runFirst.sl.r_83, runFirst.sl.r_84, runFirst.sl.r_85, runFirst.sl.r_86, runFirst.sl.r_87, runFirst.sl.r_88, runFirst.sl.r_89, runFirst.sl.r_90, runFirst.sl.r_91, runFirst.sl.r_92, runFirst.sl.r_93, runFirst.sl.r, runFirst.sl.cst_171, runFirst.sl.cst_248, class_1, class_2, class_3, class_4, class_5_6, class_7, class_8, class_9, class_10, class_11_12, class_13, class_14, class_15, class_16, class_17, class_18_19, class_20, load_plane, load_lam,
    both_first (x0 := x0) (x3 := x3) (x4 := x4) (x5 := x5) (x6 := x6), left_first (x0 := x0) (x3 := x3) (x4 := x4) (x5 := x5) (x6 := x6), right_first (x0 := x0) (x3 := x3) (x4 := x4) (x5 := x5) (x6 := x6), either_first (x0 := x0) (x3 := x3) (x4 := x4) (x5 := x5) (x6 := x6)]
  simp only [Blk.kl, Blk.upTo, blk_lam, blk_c, blk_t, blk_i]

theorem both_last : runLast.sl.r_15 c j a3 h3 a4 h4 x1 x2 = ((blk x0 x1 x2 x3 x4 x5 x6)).bi j := by
  simp only [runLast.sl.r_1, runLast.sl.r_2, runLast.sl.r_3, runLast.sl.r_4, runLast.sl.r_5, runLast.sl.r_6, runLast.sl.r_7, runLast.sl.r_8, runLast.sl.r_9, runLast.sl.r_10, runLast.sl.r_11, runLast.sl.r_12, runLast.sl.r_13, runLast.sl.r_14, runLast.sl.r_15, load_plane]
  rfl

theorem left_last : runLast.sl.r_16 c j a3 h3 a4 h4 x1 x2 = ((blk x0 x1 x2 x3 x4 x5 x6)).bl j := by
  simp only [runLast.sl.r_1, runLast.sl.r_2, runLast.sl.r_3, runLast.sl.r_4, runLast.sl.r_5, runLast.sl.r_6, runLast.sl.r_7, runLast.sl.r_8, runLast.sl.r_9, runLast.sl.r_10, runLast.sl.r_11, runLast.sl.r_12, runLast.sl.r_13, runLast.sl.r_14, runLast.sl.r_16, load_plane]
  rfl

theorem right_last : runLast.sl.r_17 c j a3 h3 a4 h4 x1 x2 = ((blk x0 x1 x2 x3 x4 x5 x6)).br j := by
  simp only [runLast.sl.r_1, runLast.sl.r_2, runLast.sl.r_3, runLast.sl.r_4, runLast.sl.r_5, runLast.sl.r_6, runLast.sl.r_7, runLast.sl.r_8, runLast.sl.r_9, runLast.sl.r_10, runLast.sl.r_11, runLast.sl.r_12, runLast.sl.r_13, runLast.sl.r_14, runLast.sl.r_17, load_plane]
  rfl

theorem either_last : runLast.sl.r_21 c j a3 h3 a4 h4 x1 x2 = ori (((blk x0 x1 x2 x3 x4 x5 x6)).bl j) (((blk x0 x1 x2 x3 x4 x5 x6)).br j) := by
  simp only [runLast.sl.r_1, runLast.sl.r_2, runLast.sl.r_3, runLast.sl.r_4, runLast.sl.r_5, runLast.sl.r_6, runLast.sl.r_7, runLast.sl.r_8, runLast.sl.r_9, runLast.sl.r_10, runLast.sl.r_11, runLast.sl.r_12, runLast.sl.r_13, runLast.sl.r_14, runLast.sl.r_21, load_plane]
  rfl

theorem wboth_last : runLast.sl.r_18 c j a3 h3 a4 h4 x1 x2 = Blk.weight (((blk x0 x1 x2 x3 x4 x5 x6)).bi j) := by
  simp only [runLast.sl.r_1, runLast.sl.r_2, runLast.sl.r_3, runLast.sl.r_4, runLast.sl.r_5, runLast.sl.r_6, runLast.sl.r_7, runLast.sl.r_8, runLast.sl.r_9, runLast.sl.r_10, runLast.sl.r_11, runLast.sl.r_12, runLast.sl.r_13, runLast.sl.r_14, runLast.sl.r_18, load_plane]
  rfl

theorem wleft_last : runLast.sl.r_19 c j a3 h3 a4 h4 x1 x2 = Blk.weight (((blk x0 x1 x2 x3 x4 x5 x6)).bl j) := by
  simp only [runLast.sl.r_1, runLast.sl.r_2, runLast.sl.r_3, runLast.sl.r_4, runLast.sl.r_5, runLast.sl.r_6, runLast.sl.r_7, runLast.sl.r_8, runLast.sl.r_9, runLast.sl.r_10, runLast.sl.r_11, runLast.sl.r_12, runLast.sl.r_13, runLast.sl.r_14, runLast.sl.r_19, load_plane]
  rfl

theorem wright_last : runLast.sl.r_20 c j a3 h3 a4 h4 x1 x2 = Blk.weight (((blk x0 x1 x2 x3 x4 x5 x6)).br j) := by
  simp only [runLast.sl.r_1, runLast.sl.r_2, runLast.sl.r_3, runLast.sl.r_4, runLast.sl.r_5, runLast.sl.r_6, runLast.sl.r_7, runLast.sl.r_8, runLast.sl.r_9, runLast.sl.r_10, runLast.sl.r_11, runLast.sl.r_12, runLast.sl.r_13, runLast.sl.r_14, runLast.sl.r_20, load_plane]
  rfl

theorem kl_last : runLast.sl.r_93 c j a2 h2 a3 h3 a4 h4 a5 h5 x0 x1 x2 x3 = ((blk x0 x1 x2 x3 x4 x5 x6)).kl j := by
  simp only [runLast.sl.r_22, runLast.sl.r_23, runLast.sl.r_24, runLast.sl.r_25, runLast.sl.r_26, runLast.sl.r_27, runLast.sl.r_28, runLast.sl.r_29, runLast.sl.r_30, runLast.sl.r_31, runLast.sl.r_32, runLast.sl.r_33, runLast.sl.r_34, runLast.sl.r_35, runLast.sl.r_36, runLast.sl.r_37, runLast.sl.r_38, runLast.sl.r_39, runLast.sl.r_40, runLast.sl.r_41, runLast.sl.r_42, runLast.sl.r_43, runLast.sl.r_44, runLast.sl.r_45, runLast.sl.r_46, runLast.sl.r_47, runLast.sl.r_48, runLast.sl.r_49, runLast.sl.r_50, runLast.sl.r_51, runLast.sl.r_52, runLast.sl.r_53, runLast.sl.r_54, runLast.sl.r_55, runLast.sl.r_56, runLast.sl.r_57, runLast.sl.r_58, runLast.sl.r_59, runLast.sl.r_60, runLast.sl.r_61, runLast.sl.r_62, runLast.sl.r_63, runLast.sl.r_64, runLast.sl.r_65, runLast.sl.r_66, runLast.sl.r_67, runLast.sl.r_68, runLast.sl.r_69, runLast.sl.r_70, runLast.sl.r_71, runLast.sl.r_72, runLast.sl.r_73, runLast.sl.r_74, runLast.sl.r_75, runLast.sl.r_76, runLast.sl.r_77, runLast.sl.r_78, runLast.sl.r_79, runLast.sl.r_80, runLast.sl.r_81, runLast.sl.r_82, runLast.sl.r_83, runLast.sl.r_84, runLast.sl.r_85, runLast.sl.r_86, runLast.sl.r_87, runLast.sl.r_88, runLast.sl.r_89, runLast.sl.r_90, runLast.sl.r_91, runLast.sl.r_92, runLast.sl.r_93, runLast.sl.r, runLast.sl.cst_171, runLast.sl.cst_248, class_1, class_2, class_3, class_4, class_5_6, class_7, class_8, class_9, class_10, class_11_12, class_13, class_14, class_15, class_16, class_17, class_18_19, class_20, load_plane, load_lam,
    both_last (x0 := x0) (x3 := x3) (x4 := x4) (x5 := x5) (x6 := x6), left_last (x0 := x0) (x3 := x3) (x4 := x4) (x5 := x5) (x6 := x6), right_last (x0 := x0) (x3 := x3) (x4 := x4) (x5 := x5) (x6 := x6), either_last (x0 := x0) (x3 := x3) (x4 := x4) (x5 := x5) (x6 := x6)]
  simp only [Blk.kl, Blk.upTo, blk_lam, blk_c, blk_t, blk_i]

/-- The running sums as the first point sets them. -/
def zeros : Accs F
  | 0 => k0_pay5
  | 1 => k0_pay6
  | 2 => k0_pay7
  | 3 => k0_pay8
  | 4 => k0_pay9
  | 5 => k0_pay10
  | 6 => k0_pay11
  | 7 => k0_pay12

section
variable (a9 : Memref sig .tc .smem S1x1 .f32) (h9 : a9.IsWhole) (a10 a11 a12 a13 a14 a15 a16 a17 : Memref sig .tc .vmem S8x2944 .f32) (h10 : a10.IsWhole) (h11 : a11.IsWhole) (h12 : a12.IsWhole) (h13 : a13.IsWhole) (h14 : a14.IsWhole) (h15 : a15.IsWhole) (h16 : a16.IsWhole) (h17 : a17.IsWhole)

set_option maxHeartbeats 2000000 in
theorem mid_at (h0 : ¬Starts j) (h1 : ¬Ends j) (s : Accs F) :
    View.canon (runMid c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).1 = ((blk x0 x1 x2 x3 x4 x5 x6)).step j s 0
    ∧ View.canon (runMid c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.1 = ((blk x0 x1 x2 x3 x4 x5 x6)).step j s 1
    ∧ View.canon (runMid c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.1 = ((blk x0 x1 x2 x3 x4 x5 x6)).step j s 2
    ∧ View.canon (runMid c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.2.1 = ((blk x0 x1 x2 x3 x4 x5 x6)).step j s 3
    ∧ View.canon (runMid c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.2.2.1 = ((blk x0 x1 x2 x3 x4 x5 x6)).step j s 4
    ∧ View.canon (runMid c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.2.2.2.1 = ((blk x0 x1 x2 x3 x4 x5 x6)).step j s 5
    ∧ View.canon (runMid c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.2.2.2.2.1 = ((blk x0 x1 x2 x3 x4 x5 x6)).step j s 6
    ∧ View.canon (runMid c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.2.2.2.2.2.1 = ((blk x0 x1 x2 x3 x4 x5 x6)).step j s 7 := by
  have hz : ∀ a : Fin 2, (![0, 0] : Fin 2 → ℕ) a = 0 := by decide
  simp only [runMid]
  refine ⟨?_, ?_, ?_, ?_, ?_, ?_, ?_, ?_⟩ <;>
  · rw [View.canon_cons_unit_lit' _ _ _ hz]
    simp (disch := decide) only [runMid.sl.r_98, runMid.sl.r_97, runMid.sl.r_96, runMid.sl.r_95, runMid.sl.r_94, load_loc, load_acc, kl_mid (x4 := x4) (x5 := x5) (x6 := x6), wboth_mid (x0 := x0) (x3 := x3) (x4 := x4) (x5 := x5) (x6 := x6), wleft_mid (x0 := x0) (x3 := x3) (x4 := x4) (x5 := x5) (x6 := x6), wright_mid (x0 := x0) (x3 := x3) (x4 := x4) (x5 := x5) (x6 := x6)]
    rfl

set_option maxHeartbeats 2000000 in
theorem first_at (h0 : Starts j) (h1 : ¬Ends j)  :
    View.canon (runFirst c j a2 h2 a3 h3 a4 h4 a5 h5 a6 h6 a7 h7 a8 h8 a9 h9 a10 h10 a11 h11 a12 h12 a13 h13 a14 h14 a15 h15 a16 h16 a17 h17 h0 h1 x0 x1 x2 x3 x4 x5 x6).1 = ((blk x0 x1 x2 x3 x4 x5 x6)).step j zeros 0
    ∧ View.canon (runFirst c j a2 h2 a3 h3 a4 h4 a5 h5 a6 h6 a7 h7 a8 h8 a9 h9 a10 h10 a11 h11 a12 h12 a13 h13 a14 h14 a15 h15 a16 h16 a17 h17 h0 h1 x0 x1 x2 x3 x4 x5 x6).2.1 = ((blk x0 x1 x2 x3 x4 x5 x6)).step j zeros 1
    ∧ View.canon (runFirst c j a2 h2 a3 h3 a4 h4 a5 h5 a6 h6 a7 h7 a8 h8 a9 h9 a10 h10 a11 h11 a12 h12 a13 h13 a14 h14 a15 h15 a16 h16 a17 h17 h0 h1 x0 x1 x2 x3 x4 x5 x6).2.2.1 = ((blk x0 x1 x2 x3 x4 x5 x6)).step j zeros 2
    ∧ View.canon (runFirst c j a2 h2 a3 h3 a4 h4 a5 h5 a6 h6 a7 h7 a8 h8 a9 h9 a10 h10 a11 h11 a12 h12 a13 h13 a14 h14 a15 h15 a16 h16 a17 h17 h0 h1 x0 x1 x2 x3 x4 x5 x6).2.2.2.1 = ((blk x0 x1 x2 x3 x4 x5 x6)).step j zeros 3
    ∧ View.canon (runFirst c j a2 h2 a3 h3 a4 h4 a5 h5 a6 h6 a7 h7 a8 h8 a9 h9 a10 h10 a11 h11 a12 h12 a13 h13 a14 h14 a15 h15 a16 h16 a17 h17 h0 h1 x0 x1 x2 x3 x4 x5 x6).2.2.2.2.1 = ((blk x0 x1 x2 x3 x4 x5 x6)).step j zeros 4
    ∧ View.canon (runFirst c j a2 h2 a3 h3 a4 h4 a5 h5 a6 h6 a7 h7 a8 h8 a9 h9 a10 h10 a11 h11 a12 h12 a13 h13 a14 h14 a15 h15 a16 h16 a17 h17 h0 h1 x0 x1 x2 x3 x4 x5 x6).2.2.2.2.2.1 = ((blk x0 x1 x2 x3 x4 x5 x6)).step j zeros 5
    ∧ View.canon (runFirst c j a2 h2 a3 h3 a4 h4 a5 h5 a6 h6 a7 h7 a8 h8 a9 h9 a10 h10 a11 h11 a12 h12 a13 h13 a14 h14 a15 h15 a16 h16 a17 h17 h0 h1 x0 x1 x2 x3 x4 x5 x6).2.2.2.2.2.2.1 = ((blk x0 x1 x2 x3 x4 x5 x6)).step j zeros 6
    ∧ View.canon (runFirst c j a2 h2 a3 h3 a4 h4 a5 h5 a6 h6 a7 h7 a8 h8 a9 h9 a10 h10 a11 h11 a12 h12 a13 h13 a14 h14 a15 h15 a16 h16 a17 h17 h0 h1 x0 x1 x2 x3 x4 x5 x6).2.2.2.2.2.2.2.1 = ((blk x0 x1 x2 x3 x4 x5 x6)).step j zeros 7 := by
  have hz : ∀ a : Fin 2, (![0, 0] : Fin 2 → ℕ) a = 0 := by decide
  simp only [runFirst]
  refine ⟨?_, ?_, ?_, ?_, ?_, ?_, ?_, ?_⟩ <;>
  · rw [View.canon_cons_unit_lit' _ _ _ hz]
    simp (disch := decide) only [runFirst.sl.r_98, runFirst.sl.r_97, runFirst.sl.r_96, runFirst.sl.r_95, runFirst.sl.r_94, load_loc, runFirst.sl.v944, runFirst.sl.v950, runFirst.sl.v956, runFirst.sl.v962, runFirst.sl.v968, runFirst.sl.v974, runFirst.sl.v979, runFirst.sl.v984, runFirst.sl.G0_1, runFirst.sl.G1_1, runFirst.sl.G2_1, runFirst.sl.G3_1, runFirst.sl.G4_1, runFirst.sl.G5_1, runFirst.sl.G6_1, runFirst.sl.G7_1, View.readCov_unit_lit', kl_first (x4 := x4) (x5 := x5) (x6 := x6), wboth_first (x0 := x0) (x3 := x3) (x4 := x4) (x5 := x5) (x6 := x6), wleft_first (x0 := x0) (x3 := x3) (x4 := x4) (x5 := x5) (x6 := x6), wright_first (x0 := x0) (x3 := x3) (x4 := x4) (x5 := x5) (x6 := x6)]
    rfl

set_option maxHeartbeats 2000000 in
theorem last_at (h0 : ¬Starts j) (h1 : Ends j) (s : Accs F) :
    View.canon (runLast c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.1 = ((blk x0 x1 x2 x3 x4 x5 x6)).step j s 0
    ∧ View.canon (runLast c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.1 = ((blk x0 x1 x2 x3 x4 x5 x6)).step j s 1
    ∧ View.canon (runLast c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.2.1 = ((blk x0 x1 x2 x3 x4 x5 x6)).step j s 2
    ∧ View.canon (runLast c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.2.2.1 = ((blk x0 x1 x2 x3 x4 x5 x6)).step j s 3
    ∧ View.canon (runLast c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.2.2.2.1 = ((blk x0 x1 x2 x3 x4 x5 x6)).step j s 4
    ∧ View.canon (runLast c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.2.2.2.2.1 = ((blk x0 x1 x2 x3 x4 x5 x6)).step j s 5
    ∧ View.canon (runLast c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.2.2.2.2.2.1 = ((blk x0 x1 x2 x3 x4 x5 x6)).step j s 6
    ∧ View.canon (runLast c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).2.2.2.2.2.2.2.2.1 = ((blk x0 x1 x2 x3 x4 x5 x6)).step j s 7 := by
  have hz : ∀ a : Fin 2, (![0, 0] : Fin 2 → ℕ) a = 0 := by decide
  simp only [runLast, runLast.sl.G0_1, runLast.sl.G1_1, runLast.sl.G2_1, runLast.sl.G3_1, runLast.sl.G4_1, runLast.sl.G5_1, runLast.sl.G6_1, runLast.sl.G7_1]
  refine ⟨?_, ?_, ?_, ?_, ?_, ?_, ?_, ?_⟩ <;>
  · rw [View.canon_cons_unit_lit' _ _ _ hz]
    simp (disch := decide) only [runLast.sl.r_98, runLast.sl.r_97, runLast.sl.r_96, runLast.sl.r_95, runLast.sl.r_94, load_loc, load_acc, kl_last (x4 := x4) (x5 := x5) (x6 := x6), wboth_last (x0 := x0) (x3 := x3) (x4 := x4) (x5 := x5) (x6 := x6), wleft_last (x0 := x0) (x3 := x3) (x4 := x4) (x5 := x5) (x6 := x6), wright_last (x0 := x0) (x3 := x3) (x4 := x4) (x5 := x5) (x6 := x6)]
    rfl

/-- The result from the eight running sums. -/
def total (s : Accs F) : F .f32 :=
  k0_pay4 (k0_pay13 (s 0)) (k0_pay14 (s 1)) (k0_pay15 (s 2)) (k0_pay16 (s 3)) (k0_pay17 (s 4)) (k0_pay18 (s 5)) (k0_pay19 (s 6)) (k0_pay20 (s 7))

set_option maxHeartbeats 2000000 in
theorem last_out_at (h0 : ¬Starts j) (h1 : Ends j) (s : Accs F) :
    View.canon (runLast c j a2 h2 a3 h3 a4 h4 a5 h5 a6 h6 a7 h7 a8 h8 a9 h9 a10 h10 a11 h11 a12 h12 a13 h13 a14 h14 a15 h15 a16 h16 a17 h17 h0 h1 x0 x1 x2 x3 x4 x5 x6 (s 0) (s 1) (s 2) (s 3) (s 4) (s 5) (s 6) (s 7)).1 = fun _ => total (((blk x0 x1 x2 x3 x4 x5 x6)).step j s) := by
  have hz : ∀ a : Fin 2, (![0, 0] : Fin 2 → ℕ) a = 0 := by decide
  simp only [runLast]
  rw [View.canon_cons_unit_lit' _ _ _ hz]
  simp (disch := decide) only [runLast.sl.r_94, runLast.sl.r_95, runLast.sl.r_96, runLast.sl.r_97, runLast.sl.r_98, runLast.sl.r_99, runLast.sl.r_100, runLast.sl.r_101, runLast.sl.r_102, runLast.sl.r_103, runLast.sl.r_104, runLast.sl.r_105, runLast.sl.r_106, runLast.sl.v994, runLast.sl.v999, runLast.sl.v1004, runLast.sl.v1009, runLast.sl.v1014, runLast.sl.v1019, runLast.sl.v1024, runLast.sl.v1029, runLast.sl.G0_1, runLast.sl.G1_1, runLast.sl.G2_1, runLast.sl.G3_1, runLast.sl.G4_1, runLast.sl.G5_1, runLast.sl.G6_1, runLast.sl.G7_1, View.readCov_unit_lit', load_loc, load_acc, kl_last (x4 := x4) (x5 := x5) (x6 := x6), wboth_last (x0 := x0) (x3 := x3) (x4 := x4) (x5 := x5) (x6 := x6), wleft_last (x0 := x0) (x3 := x3) (x4 := x4) (x5 := x5) (x6 := x6), wright_last (x0 := x0) (x3 := x3) (x4 := x4) (x5 := x5) (x6 := x6)]
  rfl
end

theorem mid_step (t : Fin cfg0.N) (h0 : ¬Starts (grid0.coords t)) (h1 : ¬Ends (grid0.coords t)) (s : Accs F) :
    midAccs c t h0 h1 x0 x1 x2 x3 x4 x5 x6 s = ((blk x0 x1 x2 x3 x4 x5 x6)).step (grid0.coords t) s := by
  have h := mid_at (F := F) (c := c) (j := grid0.coords t) (a2 := buf0 t) (h2 := buf0_whole t) (a3 := buf1 t) (h3 := buf1_whole t) (a4 := buf2 t) (h4 := buf2_whole t) (a5 := buf3 t) (h5 := buf3_whole t) (a6 := buf4 t) (h6 := buf4_whole t) (a7 := buf5 t) (h7 := buf5_whole t) (a8 := buf6 t) (h8 := buf6_whole t) (a9 := buf7 t) (h9 := buf7_whole t) (a10 := acc0) (h10 := Memref.isWhole_whole _) (a11 := acc1) (h11 := Memref.isWhole_whole _) (a12 := acc2) (h12 := Memref.isWhole_whole _) (a13 := acc3) (h13 := Memref.isWhole_whole _) (a14 := acc4) (h14 := Memref.isWhole_whole _) (a15 := acc5) (h15 := Memref.isWhole_whole _) (a16 := acc6) (h16 := Memref.isWhole_whole _) (a17 := acc7) (h17 := Memref.isWhole_whole _) (x0 := x0) (x1 := x1) (x2 := x2) (x3 := x3) (x4 := x4) (x5 := x5) (x6 := x6) h0 h1 s
  obtain ⟨e0, e1, e2, e3, e4, e5, e6, e7⟩ := h
  funext k
  match k with
  | 0 => exact e0
  | 1 => exact e1
  | 2 => exact e2
  | 3 => exact e3
  | 4 => exact e4
  | 5 => exact e5
  | 6 => exact e6
  | 7 => exact e7

theorem first_step (t : Fin cfg0.N) (h0 : Starts (grid0.coords t)) (h1 : ¬Ends (grid0.coords t))  :
    firstAccs c t h0 h1 x0 x1 x2 x3 x4 x5 x6  = ((blk x0 x1 x2 x3 x4 x5 x6)).step (grid0.coords t) zeros := by
  have h := first_at (F := F) (c := c) (j := grid0.coords t) (a2 := buf0 t) (h2 := buf0_whole t) (a3 := buf1 t) (h3 := buf1_whole t) (a4 := buf2 t) (h4 := buf2_whole t) (a5 := buf3 t) (h5 := buf3_whole t) (a6 := buf4 t) (h6 := buf4_whole t) (a7 := buf5 t) (h7 := buf5_whole t) (a8 := buf6 t) (h8 := buf6_whole t) (a9 := buf7 t) (h9 := buf7_whole t) (a10 := acc0) (h10 := Memref.isWhole_whole _) (a11 := acc1) (h11 := Memref.isWhole_whole _) (a12 := acc2) (h12 := Memref.isWhole_whole _) (a13 := acc3) (h13 := Memref.isWhole_whole _) (a14 := acc4) (h14 := Memref.isWhole_whole _) (a15 := acc5) (h15 := Memref.isWhole_whole _) (a16 := acc6) (h16 := Memref.isWhole_whole _) (a17 := acc7) (h17 := Memref.isWhole_whole _) (x0 := x0) (x1 := x1) (x2 := x2) (x3 := x3) (x4 := x4) (x5 := x5) (x6 := x6) h0 h1
  obtain ⟨e0, e1, e2, e3, e4, e5, e6, e7⟩ := h
  funext k
  match k with
  | 0 => exact e0
  | 1 => exact e1
  | 2 => exact e2
  | 3 => exact e3
  | 4 => exact e4
  | 5 => exact e5
  | 6 => exact e6
  | 7 => exact e7

theorem last_step (t : Fin cfg0.N) (h0 : ¬Starts (grid0.coords t)) (h1 : Ends (grid0.coords t)) (s : Accs F) :
    lastAccs c t h0 h1 x0 x1 x2 x3 x4 x5 x6 s = ((blk x0 x1 x2 x3 x4 x5 x6)).step (grid0.coords t) s := by
  have h := last_at (F := F) (c := c) (j := grid0.coords t) (a2 := buf0 t) (h2 := buf0_whole t) (a3 := buf1 t) (h3 := buf1_whole t) (a4 := buf2 t) (h4 := buf2_whole t) (a5 := buf3 t) (h5 := buf3_whole t) (a6 := buf4 t) (h6 := buf4_whole t) (a7 := buf5 t) (h7 := buf5_whole t) (a8 := buf6 t) (h8 := buf6_whole t) (a9 := buf7 t) (h9 := buf7_whole t) (a10 := acc0) (h10 := Memref.isWhole_whole _) (a11 := acc1) (h11 := Memref.isWhole_whole _) (a12 := acc2) (h12 := Memref.isWhole_whole _) (a13 := acc3) (h13 := Memref.isWhole_whole _) (a14 := acc4) (h14 := Memref.isWhole_whole _) (a15 := acc5) (h15 := Memref.isWhole_whole _) (a16 := acc6) (h16 := Memref.isWhole_whole _) (a17 := acc7) (h17 := Memref.isWhole_whole _) (x0 := x0) (x1 := x1) (x2 := x2) (x3 := x3) (x4 := x4) (x5 := x5) (x6 := x6) h0 h1 s
  obtain ⟨e0, e1, e2, e3, e4, e5, e6, e7⟩ := h
  funext k
  match k with
  | 0 => exact e0
  | 1 => exact e1
  | 2 => exact e2
  | 3 => exact e3
  | 4 => exact e4
  | 5 => exact e5
  | 6 => exact e6
  | 7 => exact e7

theorem last_out (t : Fin cfg0.N) (h0 : ¬Starts (grid0.coords t)) (h1 : Ends (grid0.coords t)) (s : Accs F) :
    lastOut c t h0 h1 x0 x1 x2 x3 x4 x5 x6 s = fun _ => total (((blk x0 x1 x2 x3 x4 x5 x6)).step (grid0.coords t) s) :=
  last_out_at (F := F) (c := c) (j := grid0.coords t) (a2 := buf0 t) (h2 := buf0_whole t) (a3 := buf1 t) (h3 := buf1_whole t) (a4 := buf2 t) (h4 := buf2_whole t) (a5 := buf3 t) (h5 := buf3_whole t) (a6 := buf4 t) (h6 := buf4_whole t) (a7 := buf5 t) (h7 := buf5_whole t) (a8 := buf6 t) (h8 := buf6_whole t) (a9 := buf7 t) (h9 := buf7_whole t) (a10 := acc0) (h10 := Memref.isWhole_whole _) (a11 := acc1) (h11 := Memref.isWhole_whole _) (a12 := acc2) (h12 := Memref.isWhole_whole _) (a13 := acc3) (h13 := Memref.isWhole_whole _) (a14 := acc4) (h14 := Memref.isWhole_whole _) (a15 := acc5) (h15 := Memref.isWhole_whole _) (a16 := acc6) (h16 := Memref.isWhole_whole _) (a17 := acc7) (h17 := Memref.isWhole_whole _) (x0 := x0) (x1 := x1) (x2 := x2) (x3 := x3) (x4 := x4) (x5 := x5) (x6 := x6) h0 h1 s

end Cert.KernelIdeal.Body

end
-- ==== Proof.Plain.lean ====
module

public import Idealize.ShloMosaic.PureOps.Ideal.Laws

@[expose] public section

noncomputable section

/-! # The loss on one row

What one row of the loss contributes, over the extended reals: the masks, the divergences and the location errors, as
the kernel writes them and as the definition of the loss writes them. -/

namespace Cert.Plain

open Idealize.ShloMosaic

open scoped Classical in
/-- The first number where the proposition holds, the second elsewhere. -/
def pick (p : Prop) (x y : EReal) : EReal := if p then x else y

theorem pick_pos {p : Prop} (h : p) (x y : EReal) : pick p x y = x := if_pos h
theorem pick_neg {p : Prop} (h : ¬p) (x y : EReal) : pick p x y = y := if_neg h

theorem pick_ite (p : Prop) [Decidable p] (x y : EReal) : (if p then x else y) = pick p x y := by
  by_cases h : p
  · rw [if_pos h, pick_pos h]
  · rw [if_neg h, pick_neg h]

/-- One where the proposition holds, zero elsewhere. -/
def one (p : Prop) : EReal := pick p 1 0

theorem one_pos {p : Prop} (h : p) : one p = 1 := pick_pos h 1 0
theorem one_neg {p : Prop} (h : ¬p) : one p = 0 := pick_neg h 1 0

/-- A sum over thirty-two places in eight groups of four, one group selected. -/
theorem sum_group (r : Fin 8) (f : Fin 8 → Fin 4 → EReal) :
    ∑ u : Fin 32, one (u.val / 4 = r.val) * f ⟨u.val / 4, by omega⟩ ⟨u.val % 4, by omega⟩ = ∑ k, f r k := by
  have h : ∀ (a : Fin 8) (k : Fin 4), (finProdFinEquiv (a, k)).val = k.val + 4 * a.val := fun _ _ => rfl
  rw [← (finProdFinEquiv (m := 8) (n := 4)).sum_comp, Fintype.sum_prod_type, Finset.sum_eq_single r]
  · refine Finset.sum_congr rfl fun k _ => ?_
    have e : (finProdFinEquiv (r, k)).val / 4 = r.val := by rw [h]; omega
    rw [one_pos e, one_mul]
    congr 1
    · exact Fin.ext e
    · exact Fin.ext (by show (finProdFinEquiv (r, k)).val % 4 = k.val; rw [h]; omega)
  · intro a _ ha
    refine Finset.sum_eq_zero fun k _ => ?_
    rw [one_neg, zero_mul]
    rw [h]
    intro e
    exact ha (Fin.ext (by omega))
  · simp

/-- The small constant added to every score. -/
def eps : EReal := Ideal.ofBits .f32 869711765#32

/-- The numbers one row of the loss is a function of. -/
@[ext] structure Row where
  lam : EReal
  c : Fin 21 → EReal
  t : Fin 21 → EReal
  i : Fin 21 → EReal
  lo : Fin 4 → EReal
  ls : Fin 4 → EReal
  li : Fin 4 → EReal

/-- Some class beats the background. -/
def Fg (x : Fin 21 → EReal) : Prop := ∃ k : Fin 20, x 0 < x k.succ

namespace Row

variable (r : Row)

/-- Foreground on both sides. -/
def Both : Prop := Fg r.c ∧ Fg r.t
/-- Foreground on the left only. -/
def Left : Prop := Fg r.c ∧ ¬ Fg r.t
/-- Foreground on the right only. -/
def Right : Prop := Fg r.t ∧ ¬ Fg r.c

/-- The mixed score of a class. -/
def mixed (k : Fin 21) : EReal := r.lam * r.c k + (1 - r.lam) * r.t k + eps
/-- The interpolated score of a class. -/
def ins (k : Fin 21) : EReal := r.i k + eps

/-- The numerator under the logarithm. -/
def num (k : Fin 21) : EReal := pick r.Left (r.c k + eps) (pick r.Right (r.t k + eps) (r.ins k))
/-- The denominator under the logarithm. -/
def den (k : Fin 21) : EReal := pick r.Both (r.mixed k) (r.ins k)
/-- The factor of the logarithm. -/
def coef (k : Fin 21) : EReal := pick r.Both (r.ins k - r.mixed k) (pick (r.Left ∨ r.Right) (r.num k) 0)

/-- The one sum over the classes that serves all three masks. -/
def kl : EReal := ∑ k, r.coef k * Ideal.log (Ideal.div (r.num k) (r.den k))

/-- The summed squared error of four coordinates. -/
def err (x : Fin 4 → EReal) : EReal := ∑ k, (r.li k - x k) * (r.li k - x k)

/-- What the row adds to each of the eight running sums. -/
def term : Fin 8 → EReal
  | 0 => r.kl * one r.Both
  | 1 => r.kl * one r.Left
  | 2 => r.kl * one r.Right
  | 3 => r.err r.lo * one r.Left
  | 4 => r.err r.ls * one r.Right
  | 5 => one r.Both
  | 6 => one r.Left
  | 7 => one r.Right

/-- The two halves of the symmetric divergence of the mixed and the interpolated scores. -/
def near : EReal := ∑ k, r.ins k * (Ideal.log (r.ins k) - Ideal.log (r.mixed k))
def far : EReal := ∑ k, r.mixed k * (Ideal.log (r.mixed k) - Ideal.log (r.ins k))
/-- The divergence of the interpolated scores from other scores. -/
def away (x : Fin 21 → EReal) : EReal := ∑ k, (x k + eps) * (Ideal.log (x k + eps) - Ideal.log (r.ins k))

end Row

/-- A sum over the rows of a mask divided by their number, zero where there is none. -/
def mean (s n : EReal) : EReal := pick (0 < n) (Ideal.div s (max n 1)) 0

/-- The kernel's last line, from the eight sums. -/
def blend (s : Fin 8 → EReal) : EReal :=
  mean (s 0) (s 5) * Ideal.ofBits .f32 1056964608#32 + mean (s 1) (s 6) + mean (s 3) (s 6) * Ideal.ofBits .f32 1048576000#32
    + mean (s 2) (s 7) + mean (s 4) (s 7) * Ideal.ofBits .f32 1048576000#32

/-- A sum over all the rows. -/
def over (rows : Fin 32 → Fin 8732 → Row) (f : Row → EReal) : EReal := ∑ r, ∑ p, f (rows r p)

/-- A mean over the rows of a mask. -/
def meanOver (rows : Fin 32 → Fin 8732 → Row) (p : Row → Prop) (f : Row → EReal) : EReal :=
  mean (over rows fun r => f r * one (p r)) (over rows fun r => one (p r))

/-- The loss as it is defined. -/
def loss (rows : Fin 32 → Fin 8732 → Row) : EReal :=
  Ideal.div (meanOver rows Row.Both Row.near + meanOver rows Row.Both Row.far) (Ideal.ofBits .f32 1073741824#32)
    + (meanOver rows Row.Left (fun r => r.away r.c) + meanOver rows Row.Left fun r => Ideal.div (r.err r.lo) (Ideal.ofBits .f32 1082130432#32))
    + (meanOver rows Row.Right (fun r => r.away r.t) + meanOver rows Row.Right fun r => Ideal.div (r.err r.ls) (Ideal.ofBits .f32 1082130432#32))

end Cert.Plain

end
-- ==== Proof.Point.lean ====
module

public import proofs.«01_k».proof.Proof.Block
public import proofs.«01_k».proof.Proof.Plain
public import Idealize.ShloMosaic.Lib.Pointwise
public import Idealize.ShloMosaic.Lib.WordCmp

@[expose] public section

set_option maxRecDepth 16384

noncomputable section

/-! # A block, one row and lane at a time

At the extended reals each of the eight running sums takes, on each lane, exactly what the lane's row contributes; a
lane past the end of the array takes nothing. -/

namespace Cert.KernelIdeal.Body

open Cert.KernelIdeal.Gen Cert.Plain
open Idealize.ShloMosaic

open scoped Classical in
/-- A proposition as a one-bit word. -/
def bit (p : Prop) : BitVec 1 := BitVec.ofBool (decide p)

theorem bit_and (p q : Prop) : IntOp.andi (bit p) (bit q) = bit (p ∧ q) := by
  by_cases hp : p <;> by_cases hq : q <;> simp only [bit, hp, hq] <;> decide

theorem bit_or (p q : Prop) : IntOp.ori (bit p) (bit q) = bit (p ∨ q) := by
  by_cases hp : p <;> by_cases hq : q <;> simp only [bit, hp, hq] <;> decide

theorem bit_not (p : Prop) : IntOp.xori (bit p) 1#1 = bit (¬p) := by
  by_cases hp : p <;> simp only [bit, hp] <;> decide

theorem bit_congr {p q : Prop} (h : p ↔ q) : bit p = bit q := by rw [propext h]

theorem bit_decide (p : Prop) [Decidable p] : BitVec.ofBool (decide p) = bit p := by
  by_cases hp : p <;> simp [bit, hp]

theorem select_bit (p : Prop) (x y : EReal) : Scalar.select (bit p) x y = pick p x y := by
  by_cases hp : p <;> simp [Scalar.select, bit, hp, pick]

theorem sitofp_bit (p : Prop) : (FloatOps.sitofp FTy.f32 (BitVec.setWidth 32 (bit p)) : Ideal .f32) = one p := by
  by_cases hp : p <;> simp [bit, hp, one, pick, FloatOps.sitofp]

/-- The lane lies in the array. -/
def Valid (j : grid0.Coords) (l : Fin 2944) : Prop := 2944 * (j 1).val + l.val < 8732

theorem lanes1_apply (j : grid0.Coords) (l : Fin 2944) : k0_pay22 j (ix2 0 l) = bit (Valid j l) := by
  pointwise [k0_pay22]
  have hj : (j 1).val < 3 := (j 1).isLt
  have e : IntOp.addi (Scalar.muli (BitVec.ofNat 32 (j 1).val) 2944#32) (BitVec.ofNat 32 l.val) = BitVec.ofNat 32 (2944 * (j 1).val + l.val) := by
    simp only [IntOp.addi, Scalar.muli, IntOp.muli]
    apply BitVec.eq_of_toNat_eq
    simp; omega
  rw [e, WordCmp.cmpi_slt_ofNat (by omega) (by omega)]
  rw [bit_decide]
  rfl

theorem lanes_apply (j : grid0.Coords) (r : Fin 8) (l : Fin 2944) : lanes j (ix2 r l) = bit (Valid j l) := by
  pointwise [lanes]
  exact lanes1_apply j l

theorem lt_top (x : Fin 21 → Vec Ideal S1x8x2944 .f32) (r : Fin 8) (l : Fin 2944) (y : EReal) (n : ℕ) (h : n < 21) :
    y < (top x n h (ix2 r l) : EReal) ↔ ∃ k : Fin 21, k.val ≤ n ∧ y < x k (ix3 0 r l) := by
  induction n with
  | zero =>
    pointwise [top]
    exact ⟨fun e => ⟨0, le_rfl, e⟩, fun ⟨k, hk, e⟩ => by obtain rfl : k = 0 := Fin.ext (Nat.le_zero.1 hk); exact e⟩
  | succ n ih =>
    pointwise [top]
    rw [lt_max_iff, ih]
    constructor
    · rintro (⟨k, hk, e⟩ | e)
      · exact ⟨k, Nat.le_succ_of_le hk, e⟩
      · exact ⟨⟨n + 1, h⟩, le_rfl, e⟩
    · rintro ⟨k, hk, e⟩
      rcases Nat.lt_or_eq_of_le hk with hk | hk
      · exact .inl ⟨k, Nat.le_of_lt_succ hk, e⟩
      · obtain rfl : k = ⟨n + 1, h⟩ := Fin.ext hk
        exact .inr e

theorem fore_apply (x : Fin 21 → Vec Ideal S1x8x2944 .f32) (r : Fin 8) (l : Fin 2944) :
    fore x (ix2 r l) = bit (Fg fun k => x k (ix3 0 r l)) := by
  pointwise [fore]
  rw [bit_decide]
  refine bit_congr ?_
  rw [lt_top]
  constructor
  · rintro ⟨k, -, e⟩
    induction k using Fin.cases with
    | zero => exact absurd e (lt_irrefl _)
    | succ k => exact ⟨k, e⟩
  · rintro ⟨k, e⟩
    exact ⟨k.succ, by omega, e⟩

theorem weight_apply (m : IVec S8x2944 1) (r : Fin 8) (l : Fin 2944) (p : Prop) (h : m (ix2 r l) = bit p) :
    Blk.weight (F := Ideal) m (ix2 r l) = one p := by
  pointwise [Blk.weight]
  rw [h, sitofp_bit]

namespace Blk

variable (b : Blk Ideal) (j : grid0.Coords) (r : Fin 8) (l : Fin 2944)

/-- The row of the loss a lane of the block holds. -/
def row : Row where
  lam := b.lam
  c k := b.c k (ix3 0 r l)
  t k := b.t k (ix3 0 r l)
  i k := b.i k (ix3 0 r l)
  lo k := b.lo (ix3 r k l)
  ls k := b.ls (ix3 r k l)
  li k := b.li (ix3 r k l)

theorem bi_apply : b.bi j (ix2 r l) = bit ((b.row r l).Both ∧ Valid j l) := by
  pointwise [bi]
  simp only [fore_apply, lanes_apply, bit_and, Row.Both, row]

theorem bl_apply : b.bl j (ix2 r l) = bit ((b.row r l).Left ∧ Valid j l) := by
  pointwise [bl]
  simp only [fore_apply, lanes_apply, bit_and, bit_not, Row.Left, row]

theorem br_apply : b.br j (ix2 r l) = bit ((b.row r l).Right ∧ Valid j l) := by
  pointwise [br]
  simp only [fore_apply, lanes_apply, bit_and, bit_not, Row.Right, row]

theorem upTo_apply (hv : Valid j l) (n : ℕ) (h : n ≤ 21) : b.upTo j n h (ix2 r l) =
    ∑ k : Fin n, (b.row r l).coef (k.castLE h) * Ideal.log (Ideal.div ((b.row r l).num (k.castLE h)) ((b.row r l).den (k.castLE h))) := by
  induction n with
  | zero => pointwise [upTo, k0_pay42]; simp
  | succ n ih =>
    rw [Fin.sum_univ_castSucc]
    pointwise [upTo, k0_pay43]
    rw [ih]
    simp only [bi_apply, bl_apply, br_apply, lanes1_apply, hv, and_true, bit_or, select_bit, pick_pos trivial]
    rfl

theorem kl_apply (hv : Valid j l) : b.kl j (ix2 r l) = (b.row r l).kl := b.upTo_apply j r l hv 21 le_rfl

theorem quarter : ∀ u : Fin 32, (Scalar.select
                    (IntOp.andi
                      (IntOp.cmpi CmpIPredicate.ne
                        (IntOp.subi (BitVec.setWidth 32 (IntOp.cmpi CmpIPredicate.sgt (BitVec.ofNat 32 u.val) 0#32))
                          (BitVec.setWidth 32 (IntOp.cmpi CmpIPredicate.slt (BitVec.ofNat 32 u.val) 0#32)))
                        (Scalar.subi (Scalar.extui (Scalar.cmpi CmpIPredicate.sgt 4#32 0#32))
                          (Scalar.extui (Scalar.cmpi CmpIPredicate.slt 4#32 0#32))))
                      (IntOp.cmpi CmpIPredicate.ne (IntOp.remsi ArithUnit.vector (BitVec.ofNat 32 u.val) 4#32) 0#32))
                    (IntOp.subi (IntOp.divsi ArithUnit.vector (BitVec.ofNat 32 u.val) 4#32) 1#32)
                    (IntOp.divsi ArithUnit.vector (BitVec.ofNat 32 u.val) 4#32)) = BitVec.ofNat 32 (u.val / 4) := by
  decide

theorem err_apply (w : IVec S1x2944 1) (x y : Vec Ideal S8x4x2944 .f32) (hw : w (ix2 0 l) = bit True) :
    k0_pay135 w (k0_pay131 x) y (ix2 r l) = ∑ k : Fin 4, (y (ix3 r k l) - x (ix3 r k l)) * (y (ix3 r k l) - x (ix3 r k l)) := by
  pointwise [k0_pay135, k0_pay131, k0_pay133, k0_pay134]
  rw [hw]
  simp only [select_bit, pick_pos trivial]
  refine Eq.trans (Finset.sum_congr rfl fun u _ => congrArg (· * _) ?_) (sum_group r fun a k => (y (ix3 a k l) - x (ix3 a k l)) * (y (ix3 a k l) - x (ix3 a k l)))
  rw [quarter, WordCmp.cmpi_eq_ofNat (by omega) (by omega), bit_decide]
  exact sitofp_bit _

theorem err_apply' (w : IVec S1x2944 1) (x y : Vec Ideal S8x4x2944 .f32) (hw : w (ix2 0 l) = bit True) :
    k0_pay136 w (k0_pay132 x) y (ix2 r l) = ∑ k : Fin 4, (y (ix3 r k l) - x (ix3 r k l)) * (y (ix3 r k l) - x (ix3 r k l)) := by
  pointwise [k0_pay136, k0_pay132, k0_pay133, k0_pay134]
  rw [hw]
  simp only [select_bit, pick_pos trivial]
  refine Eq.trans (Finset.sum_congr rfl fun u _ => congrArg (· * _) ?_) (sum_group r fun a k => (y (ix3 a k l) - x (ix3 a k l)) * (y (ix3 a k l) - x (ix3 a k l)))
  rw [quarter, WordCmp.cmpi_eq_ofNat (by omega) (by omega), bit_decide]
  exact sitofp_bit _

/-- What the body adds to each running sum on a lane, in its own words. -/
def gain : Fin 8 → EReal
  | 0 => b.kl j (ix2 r l) * weight (F := Ideal) (b.bi j) (ix2 r l)
  | 1 => b.kl j (ix2 r l) * weight (F := Ideal) (b.bl j) (ix2 r l)
  | 2 => b.kl j (ix2 r l) * weight (F := Ideal) (b.br j) (ix2 r l)
  | 3 => k0_pay135 (k0_pay22 j) (k0_pay131 b.lo) b.li (ix2 r l) * weight (F := Ideal) (b.bl j) (ix2 r l)
  | 4 => k0_pay136 (k0_pay22 j) (k0_pay132 b.ls) b.li (ix2 r l) * weight (F := Ideal) (b.br j) (ix2 r l)
  | 5 => weight (F := Ideal) (b.bi j) (ix2 r l)
  | 6 => weight (F := Ideal) (b.bl j) (ix2 r l)
  | 7 => weight (F := Ideal) (b.br j) (ix2 r l)

theorem step_gain (s : Accs Ideal) : ∀ k : Fin 8, b.step j s k (ix2 r l) = s k (ix2 r l) + b.gain j r l k
  | 0 => by pointwise [step, gain, k0_pay137]
  | 1 => by pointwise [step, gain, k0_pay138]
  | 2 => by pointwise [step, gain, k0_pay139]
  | 3 => by pointwise [step, k0_pay140]; rfl
  | 4 => by pointwise [step, k0_pay141]; rfl
  | 5 => by pointwise [step, gain, k0_pay1, k0_pay142]
  | 6 => by pointwise [step, gain, k0_pay2]
  | 7 => by pointwise [step, gain, k0_pay3]

theorem gain_eq (k : Fin 8) : b.gain j r l k = pick (Valid j l) ((b.row r l).term k) 0 := by
  have wi := weight_apply (b.bi j) r l _ (b.bi_apply j r l)
  have wl := weight_apply (b.bl j) r l _ (b.bl_apply j r l)
  have wr := weight_apply (b.br j) r l _ (b.br_apply j r l)
  by_cases hv : Valid j l
  · have hw : k0_pay22 j (ix2 0 l) = bit True := (lanes1_apply j l).trans (bit_congr (iff_true_intro hv))
    simp only [hv, and_true] at wi wl wr
    fin_cases k <;> simp only [gain, Row.term, pick_pos trivial, pick_pos hv, wi, wl, wr, kl_apply b j r l hv, err_apply r l _ _ _ hw, err_apply' r l _ _ _ hw] <;> rfl
  · simp only [hv, and_false, one_neg not_false] at wi wl wr
    fin_cases k <;> simp only [gain, pick_neg hv, wi, wl, wr, mul_zero]

theorem step_apply (s : Accs Ideal) (k : Fin 8) :
    b.step j s k (ix2 r l) = s k (ix2 r l) + pick (Valid j l) ((b.row r l).term k) 0 := by
  rw [step_gain, gain_eq]

end Blk

theorem zeros_apply (r : Fin 8) (l : Fin 2944) : ∀ k : Fin 8, zeros (F := Ideal) k (ix2 r l) = (0 : EReal)
  | 0 => by pointwise [zeros, k0_pay5]
  | 1 => by pointwise [zeros, k0_pay6]
  | 2 => by pointwise [zeros, k0_pay7]
  | 3 => by pointwise [zeros, k0_pay8]
  | 4 => by pointwise [zeros, k0_pay9]
  | 5 => by pointwise [zeros, k0_pay10]
  | 6 => by pointwise [zeros, k0_pay11]
  | 7 => by pointwise [zeros, k0_pay12]

theorem total_apply (s : Accs Ideal) : total s = blend fun k => ∑ r : Fin 8, ∑ l : Fin 2944, (s k (ix2 r l) : EReal) := by
  pointwise [total, k0_pay4, k0_pay13, k0_pay14, k0_pay15, k0_pay16, k0_pay17, k0_pay18, k0_pay19, k0_pay20]
  simp only [pick_ite]
  rfl

end Cert.KernelIdeal.Body

end
-- ==== Proof.Feed.lean ====
module

public import proofs.«01_k».proof.Proof.Point
public import Idealize.ShloMosaic.Lib.Claim

@[expose] public section

set_option maxRecDepth 16384

noncomputable section

/-! # What a point loads

Each lane of a point's blocks that lies in the arrays holds the entries of the arguments for one row of the loss. -/

namespace Cert.KernelIdeal.Body

open Cert.KernelIdeal.Gen Cert.Plain
open Idealize.ShloMosaic Idealize.ShloMosaic.TcCoe

variable (m : (ℓ : Loc nD τ sig) → Buf (Elt Ideal) ℓ) (c : Dev nD)

/-- A fetched block at a place inside the array: the array there. -/
theorem fill_read (w : Fin cfg0.W) (t : Fin cfg0.N) (d : (cfg0.win w).block.Idx → Elt Ideal (cfg0.win w).elt) (y : (cfg0.win w).block.Idx)
    (z : (cfg0.win w).shape.Idx) (hm : ∀ a, (y a).val < (cfg0.win w).xsize (grid0.coords t) a)
    (hz : ∀ a, (cfg0.win w).kind.off ((cfg0.win w).index t a) ((cfg0.win w).size a) + (y a).val = (z a).val) :
    (cfg0.win w).fill (grid0.coords t) d (iblk m c w t) y = (cfg0.win w).arr.view.read (Elt Ideal) (V m c (Pipeline.arrRef spec0 w)) z := by
  have h : (cfg0.win w).moved (grid0.coords t) y = true := ((cfg0.win w).moved_iff _ _).2 hm
  unfold Pipeline.Window.fill
  rw [dif_pos h]
  show (cfg0.win w).arr.view.read (Elt Ideal) (V m c (Pipeline.arrRef spec0 w)) (((cfg0.win w).rect t).emb _) = _
  congr 1
  funext a
  refine Fin.ext (Eq.trans ?_ (hz a))
  rw [Rect.emb_apply]
  show _ + 1 * (y a).val = _
  rw [Nat.one_mul]; rfl

/-! ## The blocks' sizes and places -/

theorem scores_size : ∀ t : Fin cfg0.N, (cfg0.win 1).xsize (grid0.coords t) = ![21, 8, min 2944 (8732 - 2944 * (t.val % 3))]
    ∧ (cfg0.win 2).xsize (grid0.coords t) = ![21, 8, min 2944 (8732 - 2944 * (t.val % 3))]
    ∧ (cfg0.win 3).xsize (grid0.coords t) = ![21, 8, min 2944 (8732 - 2944 * (t.val % 3))] := by decide
theorem places_size : ∀ t : Fin cfg0.N, (cfg0.win 4).xsize (grid0.coords t) = ![8, 4, min 2944 (8732 - 2944 * (t.val % 3))]
    ∧ (cfg0.win 5).xsize (grid0.coords t) = ![8, 4, min 2944 (8732 - 2944 * (t.val % 3))]
    ∧ (cfg0.win 6).xsize (grid0.coords t) = ![8, 4, min 2944 (8732 - 2944 * (t.val % 3))] := by decide
theorem scores_index : ∀ t : Fin cfg0.N, (cfg0.win 1).index t = ![0, t.val / 3, t.val % 3]
    ∧ (cfg0.win 2).index t = ![0, (t.val / 3 + 2) % 4, t.val % 3]
    ∧ (cfg0.win 3).index t = ![0, t.val / 3, t.val % 3] := by decide
theorem places_index : ∀ t : Fin cfg0.N, (cfg0.win 4).index t = ![t.val / 3, 0, t.val % 3]
    ∧ (cfg0.win 5).index t = ![(t.val / 3 + 2) % 4, 0, t.val % 3]
    ∧ (cfg0.win 6).index t = ![t.val / 3, 0, t.val % 3] := by decide

/-- The image of row `r` of group `g`. -/
def image (g : ℕ) (hg : g < 4) (r : Fin 8) : Fin 32 := ⟨8 * g + r.val, by omega⟩
/-- The prior of a lane. -/
def prior (t : Fin cfg0.N) (l : Fin 2944) (h : 2944 * (t.val % 3) + l.val < 8732) : Fin 8732 := ⟨2944 * (t.val % 3) + l.val, h⟩

theorem group_lt (t : Fin cfg0.N) : t.val / 3 < 4 := by have : t.val < 12 := t.isLt; omega

section
variable (t : Fin cfg0.N) (k : Fin 21) (q : Fin 4) (r : Fin 8) (l : Fin 2944) (h : 2944 * (t.val % 3) + l.val < 8732)

include h in
theorem scores_moved (sz : Fin 3 → ℕ) (hs : sz = ![21, 8, min 2944 (8732 - 2944 * (t.val % 3))]) (a : Fin 3) : (ix3 k r l a).val < sz a := by
  subst hs
  fin_cases a
  · exact k.isLt
  · exact r.isLt
  · exact lt_min l.isLt (by show l.val < 8732 - _; omega)
include h in
theorem places_moved (sz : Fin 3 → ℕ) (hs : sz = ![8, 4, min 2944 (8732 - 2944 * (t.val % 3))]) (a : Fin 3) : (ix3 r q l a).val < sz a := by
  subst hs
  fin_cases a
  · exact r.isLt
  · exact q.isLt
  · exact lt_min l.isLt (by show l.val < 8732 - _; omega)
theorem scores_at (g : ℕ) (hg : g < 4) (ind : Fin 3 → ℕ) (hi : ind = ![0, g, t.val % 3]) (a : Fin 3) :
    ind a * S21x8x2944.size a + (ix3 k r l a).val = (ix3 k (image g hg r) (prior t l h) a).val := by
  subst hi
  fin_cases a
  · show 0 * 21 + k.val = k.val; omega
  · show g * 8 + r.val = 8 * g + r.val; omega
  · show t.val % 3 * 2944 + l.val = 2944 * (t.val % 3) + l.val; omega
theorem places_at (g : ℕ) (hg : g < 4) (ind : Fin 3 → ℕ) (hi : ind = ![g, 0, t.val % 3]) (a : Fin 3) :
    ind a * S8x4x2944.size a + (ix3 r q l a).val = (ix3 (image g hg r) q (prior t l h) a).val := by
  subst hi
  fin_cases a
  · show g * 8 + r.val = 8 * g + r.val; omega
  · show 0 * 4 + q.val = q.val; omega
  · show t.val % 3 * 2944 + l.val = 2944 * (t.val % 3) + l.val; omega

variable (ds : Vec Ideal S21x8x2944 .f32) (dp : Vec Ideal S8x4x2944 .f32)

theorem in1_apply : in1 m c t ds (ix3 k r l) = V m c main_v1 (ix3 k (image _ (group_lt t) r) (prior t l h)) :=
  fill_read m c 1 t ds (ix3 k r l) (ix3 k (image _ (group_lt t) r) (prior t l h)) (scores_moved t k r l h _ (scores_size t).1)
    (scores_at t k r l h _ _ _ (scores_index t).1)
theorem in2_apply : in2 m c t ds (ix3 k r l) = V m c main_v2 (ix3 k (image ((t.val / 3 + 2) % 4) (Nat.mod_lt _ (by decide)) r) (prior t l h)) :=
  fill_read m c 2 t ds (ix3 k r l) (ix3 k (image _ (Nat.mod_lt _ (by decide)) r) (prior t l h)) (scores_moved t k r l h _ (scores_size t).2.1)
    (scores_at t k r l h _ _ _ (scores_index t).2.1)
theorem in3_apply : in3 m c t ds (ix3 k r l) = V m c main_v3 (ix3 k (image _ (group_lt t) r) (prior t l h)) :=
  fill_read m c 3 t ds (ix3 k r l) (ix3 k (image _ (group_lt t) r) (prior t l h)) (scores_moved t k r l h _ (scores_size t).2.2)
    (scores_at t k r l h _ _ _ (scores_index t).2.2)
theorem in4_apply : in4 m c t dp (ix3 r q l) = V m c main_v4 (ix3 (image _ (group_lt t) r) q (prior t l h)) :=
  fill_read m c 4 t dp (ix3 r q l) (ix3 (image _ (group_lt t) r) q (prior t l h)) (places_moved t q r l h _ (places_size t).1)
    (places_at t q r l h _ _ _ (places_index t).1)
theorem in5_apply : in5 m c t dp (ix3 r q l) = V m c main_v5 (ix3 (image ((t.val / 3 + 2) % 4) (Nat.mod_lt _ (by decide)) r) q (prior t l h)) :=
  fill_read m c 5 t dp (ix3 r q l) (ix3 (image _ (Nat.mod_lt _ (by decide)) r) q (prior t l h)) (places_moved t q r l h _ (places_size t).2.1)
    (places_at t q r l h _ _ _ (places_index t).2.1)
theorem in6_apply : in6 m c t dp (ix3 r q l) = V m c main_v6 (ix3 (image _ (group_lt t) r) q (prior t l h)) :=
  fill_read m c 6 t dp (ix3 r q l) (ix3 (image _ (group_lt t) r) q (prior t l h)) (places_moved t q r l h _ (places_size t).2.2)
    (places_at t q r l h _ _ _ (places_index t).2.2)
end

/-! ## The arrays the windows read, from the arguments -/

section
variable (k : Fin 21) (q : Fin 4) (r : Fin 32) (p : Fin 8732)

theorem V_v1 : V m c main_v1 (ix3 k r p) = m (c, Proc.devRef .tc main_arg0) (ix3 r p k) := by
  show StableHlo.after hostOps0 (fun b => m (c, b)) (Proc.devRef .tc main_v1) (ix3 k r p) = _
  entry_read
  pointwise
theorem V_v2 : V m c main_v2 (ix3 k r p) = m (c, Proc.devRef .tc main_arg4) (ix3 r p k) := by
  show StableHlo.after hostOps0 (fun b => m (c, b)) (Proc.devRef .tc main_v2) (ix3 k r p) = _
  entry_read
  pointwise
theorem V_v3 : V m c main_v3 (ix3 k r p) = m (c, Proc.devRef .tc main_arg5) (ix3 r p k) := by
  show StableHlo.after hostOps0 (fun b => m (c, b)) (Proc.devRef .tc main_v3) (ix3 k r p) = _
  entry_read
  pointwise
theorem V_v4 : V m c main_v4 (ix3 r q p) = m (c, Proc.devRef .tc main_arg2) (ix3 r p q) := by
  show StableHlo.after hostOps0 (fun b => m (c, b)) (Proc.devRef .tc main_v4) (ix3 r q p) = _
  entry_read
  pointwise
theorem V_v5 : V m c main_v5 (ix3 r q p) = m (c, Proc.devRef .tc main_arg6) (ix3 r p q) := by
  show StableHlo.after hostOps0 (fun b => m (c, b)) (Proc.devRef .tc main_v5) (ix3 r q p) = _
  entry_read
  pointwise
theorem V_v6 : V m c main_v6 (ix3 r q p) = m (c, Proc.devRef .tc main_arg7) (ix3 r p q) := by
  show StableHlo.after hostOps0 (fun b => m (c, b)) (Proc.devRef .tc main_v6) (ix3 r q p) = _
  entry_read
  pointwise
theorem in0_apply (t : Fin cfg0.N) : in0 m c t (ix2 0 0) = m (c, Proc.devRef .tc main_arg8) ix0 := by
  show StableHlo.after hostOps0 (fun b => m (c, b)) (Proc.devRef .tc main_v0) (ix2 0 0) = _
  entry_read
  pointwise
end

/-! ## The row a lane holds -/

/-- The other half of the batch. -/
def across (r : Fin 32) : Fin 32 := ⟨(r.val + 16) % 32, by omega⟩

/-- The row of the loss the arguments hold for an image and a prior. -/
def argRow (r : Fin 32) (p : Fin 8732) : Row where
  lam := m (c, Proc.devRef .tc main_arg8) ix0
  c k := m (c, Proc.devRef .tc main_arg0) (ix3 r p k)
  t k := m (c, Proc.devRef .tc main_arg4) (ix3 (across r) p k)
  i k := m (c, Proc.devRef .tc main_arg5) (ix3 r p k)
  lo k := m (c, Proc.devRef .tc main_arg2) (ix3 r p k)
  ls k := m (c, Proc.devRef .tc main_arg6) (ix3 (across r) p k)
  li k := m (c, Proc.devRef .tc main_arg7) (ix3 r p k)

theorem image_across (t : Fin cfg0.N) (r : Fin 8) :
    image ((t.val / 3 + 2) % 4) (Nat.mod_lt _ (by decide)) r = across (image _ (group_lt t) r) := by
  have := group_lt t
  apply Fin.ext
  show 8 * ((t.val / 3 + 2) % 4) + r.val = (8 * (t.val / 3) + r.val + 16) % 32
  omega

theorem plane_at (x : Vec Ideal S21x8x2944 .f32) (k : Fin 21) (r : Fin 8) (l : Fin 2944) : plane x k.val (ix3 0 r l) = x (ix3 k r l) := by
  show x (ix3 ⟨k.val % 21, _⟩ r l) = _
  congr 2
  exact Fin.ext (Nat.mod_eq_of_lt k.isLt)

theorem row_eq (t : Fin cfg0.N) (d1 d2 d3 : Vec Ideal S21x8x2944 .f32) (d4 d5 d6 : Vec Ideal S8x4x2944 .f32) (r : Fin 8) (l : Fin 2944)
    (h : 2944 * (t.val % 3) + l.val < 8732) :
    (blk (in0 m c t) (in1 m c t d1) (in2 m c t d2) (in3 m c t d3) (in4 m c t d4) (in5 m c t d5) (in6 m c t d6)).row r l
      = argRow m c (image _ (group_lt t) r) (prior t l h) := by
  unfold Blk.row argRow
  simp only [blk, plane_at, in0_apply, in1_apply m c t _ r l h, in2_apply m c t _ r l h, in3_apply m c t _ r l h, in4_apply m c t _ r l h,
    in5_apply m c t _ r l h, in6_apply m c t _ r l h, image_across]
  exact Row.ext rfl (funext fun k => V_v1 m c k _ _) (funext fun k => V_v2 m c k _ _) (funext fun k => V_v3 m c k _ _)
    (funext fun k => V_v4 m c k _ _) (funext fun k => V_v5 m c k _ _) (funext fun k => V_v6 m c k _ _)

end Cert.KernelIdeal.Body

end
-- ==== Proof.Sums.lean ====
module

public import proofs.«01_k».proof.Proof.Plain

@[expose] public section

noncomputable section

/-! # The rows, counted by blocks

The kernel visits the rows of the loss block by block, lane by lane, the last block of priors running past the end of
the array. The sum over all it visits is the sum over all the rows. -/

namespace Cert.Plain

theorem sum_split (a b : ℕ) (f : ℕ → EReal) : ∑ x : Fin (a * b), f x = ∑ i : Fin a, ∑ j : Fin b, f (j.val + b * i.val) := by
  rw [← finProdFinEquiv.sum_comp, Fintype.sum_prod_type]
  rfl

theorem sum_longer {a b : ℕ} (hab : a ≤ b) (f : ℕ → EReal) (h : ∀ x, a ≤ x → f x = 0) : ∑ x : Fin a, f x = ∑ x : Fin b, f x := by
  rw [← Finset.sum_range, ← Finset.sum_range]
  refine Finset.sum_subset (Finset.range_mono hab) fun x _ hx => h x ?_
  exact Nat.le_of_not_lt fun h' => hx (Finset.mem_range.2 h')

/-- The sum over lanes and points is the sum over rows. -/
theorem sum_rows (f : ℕ → ℕ → EReal) (h : ∀ r p, 8732 ≤ p → f r p = 0) :
    ∑ r : Fin 8, ∑ l : Fin 2944, ∑ t : Fin 12, f (8 * (t.val / 3) + r.val) (2944 * (t.val % 3) + l.val)
      = ∑ r : Fin 32, ∑ p : Fin 8732, f r p := by
  have inner : ∀ r : Fin 8, ∑ l : Fin 2944, ∑ t : Fin 12, f (8 * (t.val / 3) + r.val) (2944 * (t.val % 3) + l.val)
      = ∑ g : Fin 4, ∑ p : Fin 8732, f (r.val + 8 * g.val) p := by
    intro r
    rw [Finset.sum_comm]
    refine (sum_split 4 3 fun t => ∑ l : Fin 2944, f (8 * (t / 3) + r.val) (2944 * (t % 3) + l.val)).trans ?_
    refine Finset.sum_congr rfl fun g _ => ?_
    refine Eq.trans ?_ ((sum_longer (b := 3 * 2944) (by decide) (f (r.val + 8 * g.val)) fun p hp => h _ p hp).trans (sum_split 3 2944 _)).symm
    refine Finset.sum_congr rfl fun j _ => Finset.sum_congr rfl fun l _ => ?_
    congr 1 <;> omega
  rw [Finset.sum_congr rfl fun r _ => inner r, Finset.sum_comm]
  exact (sum_split 4 8 fun r => ∑ p : Fin 8732, f r p).symm

end Cert.Plain

end
-- ==== Proof.Value.lean ====
module

public import proofs.«01_k».proof.Proof.Feed
public import proofs.«01_k».proof.Proof.Sums
public import Idealize.ShloMosaic.Lib.Pipeline.ValueKit.Geometry
public import Idealize.ShloMosaic.Lib.Claim

@[expose] public section

set_option maxRecDepth 16384

noncomputable section

/-! # The kernel's result

Before each point every lane of the eight accumulators holds the sum of what the lane's rows have contributed so far; at
the end the result is the blend of the eight sums over all the rows. -/

namespace Cert.KernelIdeal.Body

open Cert.KernelIdeal.Gen Cert.Plain
open Idealize.ShloMosaic Idealize.ShloMosaic.TcCoe

variable (m : (ℓ : Loc nD τ sig) → Buf (Elt Ideal) ℓ) (ρ : Dev nD → PrngReg) (c : Dev nD)

/-- What a row contributes to a sum, zero outside the arrays. -/
def share (k : Fin 8) (r p : ℕ) : EReal :=
  if h : r < 32 ∧ p < 8732 then (argRow m c ⟨r, h.1⟩ ⟨p, h.2⟩).term k else 0

/-- What a point adds on a lane. -/
def adds (k : Fin 8) (r : Fin 8) (l : Fin 2944) (t : ℕ) : EReal := share m c k (8 * (t / 3) + r.val) (2944 * (t % 3) + l.val)

/-- What a lane holds before point `n`. -/
def held (n : ℕ) (k : Fin 8) (r : Fin 8) (l : Fin 2944) : EReal := ∑ t ∈ Finset.range n, adds m c k r l t

theorem step_adds (t : Fin cfg0.N) (d1 d2 d3 : Vec Ideal S21x8x2944 .f32) (d4 d5 d6 : Vec Ideal S8x4x2944 .f32) (s : Accs Ideal)
    (k r : Fin 8) (l : Fin 2944) :
    (blk (in0 m c t) (in1 m c t d1) (in2 m c t d2) (in3 m c t d3) (in4 m c t d4) (in5 m c t d5) (in6 m c t d6)).step (grid0.coords t) s k (ix2 r l)
      = (s k (ix2 r l) : EReal) + adds m c k r l t.val := by
  rw [Blk.step_apply]
  congr 1
  have ht : t.val < 12 := t.isLt
  have e : Valid (grid0.coords t) l ↔ 2944 * (t.val % 3) + l.val < 8732 := by
    unfold Valid
    rw [coord1, Nat.div_one]
  unfold adds share
  by_cases h : 2944 * (t.val % 3) + l.val < 8732
  · rw [pick_pos (e.2 h), row_eq m c t d1 d2 d3 d4 d5 d6 r l h, dif_pos ⟨by omega, h⟩]
    rfl
  · rw [pick_neg (mt e.1 h), dif_neg fun h' => h h'.2]

/-- The accumulators before point `n`. -/
def Fits (n : ℕ) (s : Accs Ideal) : Prop := n = 0 ∨ ∀ k r l, (s k (ix2 r l) : EReal) = held m c n k r l

theorem fits_step (t : Fin cfg0.N) (d1 d2 d3 : Vec Ideal S21x8x2944 .f32) (d4 d5 d6 : Vec Ideal S8x4x2944 .f32) (s : Accs Ideal)
    (h : ∀ k r l, (s k (ix2 r l) : EReal) = held m c t.val k r l) (k r : Fin 8) (l : Fin 2944) :
    ((blk (in0 m c t) (in1 m c t d1) (in2 m c t d2) (in3 m c t d3) (in4 m c t d4) (in5 m c t d5) (in6 m c t d6)).step (grid0.coords t) s k (ix2 r l) : EReal)
      = held m c (t.val + 1) k r l := by
  rw [step_adds, h, held, held, Finset.sum_range_succ]

/-- The result: the blend of the eight sums over the lanes. -/
def answer : EReal := blend fun k => ∑ r : Fin 8, ∑ l : Fin 2944, held m c 12 k r l

/-- The story of the run. -/
def story : Story m where
  fits c n s := Fits m c n s
  result c := fun _ => answer m c
  named := true
  start _ _ := .inl rfl
  first := by
    intro c t h h0 h1 d1 d2 d3 d4 d5 d6
    rw [first_step]
    refine .inr ?_
    have := fits_step m c t d1 d2 d3 d4 d5 d6 zeros fun k r l => by rw [h, zeros_apply]; simp [held]
    rwa [h] at this
  mid := by
    intro c t h h' h0 h1 d1 d2 d3 d4 d5 d6 s hs
    rw [mid_step]
    exact .inr (fits_step m c t d1 d2 d3 d4 d5 d6 s (hs.resolve_left h))
  last := by
    intro c t h h0 h1 d1 d2 d3 d4 d5 d6 s hs
    rw [last_step]
    have := fits_step m c t d1 d2 d3 d4 d5 d6 s (by rw [h]; exact hs.resolve_left (by decide))
    rw [h] at this
    exact .inr this
  ends := by
    intro c t h h0 h1 d1 d2 d3 d4 d5 d6 s hs _
    rw [last_out]
    have := fits_step m c t d1 d2 d3 d4 d5 d6 s (by rw [h]; exact hs.resolve_left (by decide))
    rw [h] at this
    funext _
    rw [total_apply]
    simp only [this]
    rfl

theorem held_eq (k r : Fin 8) (l : Fin 2944) :
    held m c 12 k r l = ∑ t : Fin 12, share m c k (8 * (t.val / 3) + r.val) (2944 * (t.val % 3) + l.val) :=
  Finset.sum_range (adds m c k r l)

theorem share_in (k : Fin 8) (r : Fin 32) (p : Fin 8732) : share m c k r.val p.val = (argRow m c r p).term k :=
  dif_pos ⟨r.isLt, p.isLt⟩

theorem share_out (k : Fin 8) (r p : ℕ) (hp : 8732 ≤ p) : share m c k r p = 0 :=
  dif_neg fun h => absurd h.2 (Nat.not_lt.2 hp)

theorem answer_eq : answer m c = blend fun k => ∑ r : Fin 32, ∑ p : Fin 8732, (argRow m c r p).term k := by
  have h := fun k => sum_rows (share m c k) (share_out m c k)
  simp only [answer, held_eq, h, share_in]

theorem out_whole : (cfg0.win 7).WholeAt ⟨11, by decide⟩ := by decide +kernel

theorem out_final : (dats m (story m) 0 c).arrAt 7 cfg0.N = fun _ => answer m c :=
  (dats m (story m) 0 c).arrAt_eq_of_after_last 7 ⟨11, by decide⟩ out_whole _ fun j => rfl

theorem result_eq : Pipeline.afterTail₀ cfgs (dats m (story m)) 0 (V0 m) [hostOps1] c main_v8 = fun _ => answer m c := by
  have h : Pipeline.withArrays (cfgs 0).spec c (V0 m c) (fun w => (dats m (story m) 0 c).arrAt w (cfgs 0).N) (Proc.devRef .tc main_v7) = fun _ => answer m c :=
    (Pipeline.withArrays_arr (cfgs 0).spec (by decide) c _ _ 7).trans (out_final m c)
  show StableHlo.after hostOps1 _ (Proc.devRef .tc main_v8) = _
  entry_read
  rw [h]
  rfl

/-- The run ends with the answer and the arguments unchanged. -/
theorem value_run : θ_run defs (onTc (τ := τ) (main (F := Ideal))) ⟨m, fun _ => 0, ρ⟩ (fun r => ∀ c : Dev nD,
    r.2.mem ((c.tc : Thread nD τ).loc main_v8) = (fun _ => answer m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v8 (Pipeline.mem_restRefs_of main_v8 (by decide) (by decide))).trans (result_eq m c),
      ((h c).2 main_arg0 (Pipeline.mem_restRefs_of main_arg0 (by decide) (by decide))).trans (W_main_arg0 m (dats m (story m)) c),
      ((h c).2 main_arg1 (Pipeline.mem_restRefs_of main_arg1 (by decide) (by decide))).trans (W_main_arg1 m (dats m (story m)) c),
      ((h c).2 main_arg2 (Pipeline.mem_restRefs_of main_arg2 (by decide) (by decide))).trans (W_main_arg2 m (dats m (story m)) c),
      ((h c).2 main_arg3 (Pipeline.mem_restRefs_of main_arg3 (by decide) (by decide))).trans (W_main_arg3 m (dats m (story m)) c),
      ((h c).2 main_arg4 (Pipeline.mem_restRefs_of main_arg4 (by decide) (by decide))).trans (W_main_arg4 m (dats m (story m)) c),
      ((h c).2 main_arg5 (Pipeline.mem_restRefs_of main_arg5 (by decide) (by decide))).trans (W_main_arg5 m (dats m (story m)) c),
      ((h c).2 main_arg6 (Pipeline.mem_restRefs_of main_arg6 (by decide) (by decide))).trans (W_main_arg6 m (dats m (story m)) c),
      ((h c).2 main_arg7 (Pipeline.mem_restRefs_of main_arg7 (by decide) (by decide))).trans (W_main_arg7 m (dats m (story m)) c),
      ((h c).2 main_arg8 (Pipeline.mem_restRefs_of main_arg8 (by decide) (by decide))).trans (W_main_arg8 m (dats m (story m)) c)⟩)
    (named_run m ρ (story m) rfl)

end Cert.KernelIdeal.Body

end
-- ==== Proof.Ref.lean ====
module

public import proofs.«01_k».proof.Proof.Feed
public import proofs.«01_k».proof.Proof.Gen.ReferenceIdeal.Read
public import Idealize.ShloMosaic.Lib.Pointwise

@[expose] public section

set_option maxRecDepth 16384

noncomputable section

/-! # The reference's result

Each number the reference computes is read off for one image and prior: the masks, the divergences, the location
errors; its result is the loss as it is defined over all the rows. -/

namespace Cert.ReferenceIdeal.Read

open Cert.KernelIdeal.Body Cert.Plain
open Cert.ReferenceIdeal Cert.ReferenceIdeal.Gen Idealize.ShloMosaic Idealize.ShloMosaic.TcCoe

/-! ## Masks and means -/

theorem uitofp_bit (q : Prop) : (FloatOps.uitofp FTy.f32 (bit q) : Ideal .f32) = one q := by
  by_cases hp : q <;> simp [bit, hp, one, pick, FloatOps.uitofp]

theorem not_bit (q : Prop) : ~~~(bit q) = bit (¬q) := by
  by_cases hp : q <;> simp only [bit, hp] <;> decide

theorem select_mean (s n : Ideal .f32) :
    (Scalar.select (FloatOps.cmpf .ogt n (FloatOps.ofBits .f32 0x00000000#32))
      (FloatOps.hostDivf s (FloatOps.maximumf n (FloatOps.ofBits .f32 0x3F800000#32))) (FloatOps.ofBits .f32 0x00000000#32) : Ideal .f32)
    = mean s n := by
  pointwise
  exact pick_ite _ _ _

theorem zero_first (x : EReal) : (FloatOps.ofBits .f32 0x00000000#32 : Ideal .f32) + x = x := by
  show Ideal.ofBits .f32 0x00000000#32 + x = x
  rw [show Ideal.ofBits .f32 0x00000000#32 = 0 by simp [Ideal.ofBits, Ideal.ieee], zero_add]

/-- A sum over all the places from zero, place by place. -/
theorem sum_places (y : S32x8732.Idx → EReal) (rows : Fin 32 → Fin 8732 → Row) (f : Row → EReal) (h : ∀ r p, y (ix2 r p) = f (rows r p)) :
    ∑ j : S32x8732.Idx, y j = over rows f := by
  rw [sum_idx2]
  exact Finset.sum_congr rfl fun r _ => Finset.sum_congr rfl fun p _ => h r p

variable (x0 x4 x5 : (⟨S32x8732x21, .f32⟩ : BufTy).Contents (Elt Ideal)) (x2 x6 x7 : (⟨S32x8732x4, .f32⟩ : BufTy).Contents (Elt Ideal))
  (x8 : (⟨S_, .f32⟩ : BufTy).Contents (Elt Ideal))

/-- The row of the loss the arguments hold for an image and a prior. -/
def rowOf (r : Fin 32) (p : Fin 8732) : Row where
  lam := x8 ix0
  c k := x0 (ix3 r p k)
  t k := x4 (ix3 (across r) p k)
  i k := x5 (ix3 r p k)
  lo k := x2 (ix3 r p k)
  ls k := x6 (ix3 (across r) p k)
  li k := x7 (ix3 r p k)

section
variable (r : Fin 32) (p : Fin 8732)

/-! ## The halves of the batch exchanged -/

theorem v2_at (k : Fin 21) : val_main_v2 (F := Ideal) x4 (ix3 r p k) = x4 (ix3 (across r) p k) := by
  pointwise [val_main_v2, val_main_v0, val_main_v1]
  split <;> congr 2 <;> (apply Fin.ext; simp only [across]; omega)

theorem v5_at (k : Fin 4) : val_main_v5 (F := Ideal) x6 (ix3 r p k) = x6 (ix3 (across r) p k) := by
  pointwise [val_main_v5, val_main_v3, val_main_v4]
  split <;> congr 2 <;> (apply Fin.ext; simp only [across]; omega)

/-! ## The masks -/

theorem fg_bit (z : Fin 21 → EReal) (y : Fin 20 → EReal) (h : ∀ k, y k = z k.succ) :
    (FloatOps.cmpf .ogt (Finset.univ.fold max (Ideal.ofBits FTy.f32 0xFF800000#32) y : Ideal .f32) (z 0 : Ideal .f32)) = bit (Fg z) := by
  have e : Ideal.ofBits FTy.f32 0xFF800000#32 = ⊥ := by simp [Ideal.ofBits, Ideal.ieee]
  rw [e]
  refine (bit_decide _).trans (bit_congr ?_)
  rw [Finset.lt_fold_max]
  simp only [not_lt_bot, false_or, Finset.mem_univ, true_and, h]
  rfl

theorem v6_at (k : Fin 20) : val_main_v6 (F := Ideal) x0 (ix3 r p k) = x0 (ix3 r p k.succ) := by
  pointwise [val_main_v6]
  congr 2
  exact Fin.ext (Nat.add_comm _ _)
theorem v7_at : val_main_v7 (F := Ideal) x0 (ix2 r p) = Finset.univ.fold max (Ideal.ofBits FTy.f32 0xFF800000#32) fun k : Fin 20 => val_main_v6 (F := Ideal) x0 (ix3 r p k) := by
  pointwise [val_main_v7, val_main_cst]
theorem v9_at : val_main_v9 (F := Ideal) x0 (ix2 r p) = x0 (ix3 r p 0) := by
  pointwise [val_main_v9, val_main_v8]
theorem v11_at (k : Fin 20) : val_main_v11 (F := Ideal) x4 (ix3 r p k) = x4 (ix3 (across r) p k.succ) := by
  pointwise [val_main_v11]
  rw [v2_at]
  congr 2
  exact Fin.ext (Nat.add_comm _ _)
theorem v12_at : val_main_v12 (F := Ideal) x4 (ix2 r p) = Finset.univ.fold max (Ideal.ofBits FTy.f32 0xFF800000#32) fun k : Fin 20 => val_main_v11 (F := Ideal) x4 (ix3 r p k) := by
  pointwise [val_main_v12, val_main_cst_0]
theorem v14_at : val_main_v14 (F := Ideal) x4 (ix2 r p) = x4 (ix3 (across r) p 0) := by
  pointwise [val_main_v14, val_main_v13]
  exact v2_at x4 r p 0

theorem v10_at : val_main_v10 (F := Ideal) x0 (ix2 r p) = bit (Fg fun k => x0 (ix3 r p k)) := by
  rw [val_main_v10_apply, v7_at, v9_at]
  exact fg_bit (fun k => x0 (ix3 r p k)) _ fun k => v6_at x0 r p k
theorem v15_at : val_main_v15 (F := Ideal) x4 (ix2 r p) = bit (Fg fun k => x4 (ix3 (across r) p k)) := by
  rw [val_main_v15_apply, v12_at, v14_at]
  exact fg_bit (fun k => x4 (ix3 (across r) p k)) _ fun k => v11_at x4 r p k

theorem v20_at : val_main_v20 (F := Ideal) x0 x4 (ix2 r p) = bit (rowOf x0 x4 x5 x2 x6 x7 x8 r p).Both := by
  simp only [val_main_v20_apply, v10_at, v15_at, bit_and]
  rfl
theorem v17_at : val_main_v17 (F := Ideal) x0 x4 (ix2 r p) = bit (rowOf x0 x4 x5 x2 x6 x7 x8 r p).Left := by
  simp only [val_main_v17_apply, val_main_v16_apply, v10_at, v15_at, not_bit, bit_and]
  rfl
theorem v19_at : val_main_v19 (F := Ideal) x0 x4 (ix2 r p) = bit (rowOf x0 x4 x5 x2 x6 x7 x8 r p).Right := by
  simp only [val_main_v19_apply, val_main_v18_apply, v10_at, v15_at, not_bit, bit_and]
  rfl
theorem v41_at : val_main_v41 (F := Ideal) x0 x4 (ix2 r p) = one (rowOf x0 x4 x5 x2 x6 x7 x8 r p).Both := by
  rw [val_main_v41_apply, v20_at x0 x4 x5 x2 x6 x7 x8, uitofp_bit]
theorem v49_at : val_main_v49 (F := Ideal) x0 x4 (ix2 r p) = one (rowOf x0 x4 x5 x2 x6 x7 x8 r p).Both := by
  rw [val_main_v49_apply, v20_at x0 x4 x5 x2 x6 x7 x8, uitofp_bit]
theorem v68_at : val_main_v68 (F := Ideal) x0 x4 (ix2 r p) = one (rowOf x0 x4 x5 x2 x6 x7 x8 r p).Left := by
  rw [val_main_v68_apply, v17_at x0 x4 x5 x2 x6 x7 x8, uitofp_bit]
theorem v81_at : val_main_v81 (F := Ideal) x0 x4 (ix2 r p) = one (rowOf x0 x4 x5 x2 x6 x7 x8 r p).Left := by
  rw [val_main_v81_apply, v17_at x0 x4 x5 x2 x6 x7 x8, uitofp_bit]
theorem v99_at : val_main_v99 (F := Ideal) x0 x4 (ix2 r p) = one (rowOf x0 x4 x5 x2 x6 x7 x8 r p).Right := by
  rw [val_main_v99_apply, v19_at x0 x4 x5 x2 x6 x7 x8, uitofp_bit]
theorem v112_at : val_main_v112 (F := Ideal) x0 x4 (ix2 r p) = one (rowOf x0 x4 x5 x2 x6 x7 x8 r p).Right := by
  rw [val_main_v112_apply, v19_at x0 x4 x5 x2 x6 x7 x8, uitofp_bit]

/-! ## The divergences -/

theorem v34_at (k : Fin 21) : val_main_v34 (F := Ideal) x0 x4 x5 x8 (ix3 r p k) = (rowOf x0 x4 x5 x2 x6 x7 x8 r p).ins k * (Ideal.log ((rowOf x0 x4 x5 x2 x6 x7 x8 r p).ins k) - Ideal.log ((rowOf x0 x4 x5 x2 x6 x7 x8 r p).mixed k)) := by
  pointwise [val_main_v34, val_main_v33, val_main_v32, val_main_v31, val_main_v30, val_main_v29, val_main_cst_3, val_main_v28, val_main_v27, val_main_v26, val_main_v25, val_main_v24, val_main_v23, val_main_v22, val_main_v21, val_main_cst_1, val_main_cst_2]
  simp only [v2_at]
  rfl
theorem v35_at : val_main_v35 (F := Ideal) x0 x4 x5 x8 (ix2 r p) = (rowOf x0 x4 x5 x2 x6 x7 x8 r p).near := by
  rw [val_main_v35_apply]
  refine (zero_first _).trans (Finset.sum_congr rfl fun k _ => Eq.trans (congrArg _ ?_) (v34_at x0 x4 x5 x2 x6 x7 x8 r p k))
  exact eq_ix3 _
theorem v39_at (k : Fin 21) : val_main_v39 (F := Ideal) x0 x4 x5 x8 (ix3 r p k) = (rowOf x0 x4 x5 x2 x6 x7 x8 r p).mixed k * (Ideal.log ((rowOf x0 x4 x5 x2 x6 x7 x8 r p).mixed k) - Ideal.log ((rowOf x0 x4 x5 x2 x6 x7 x8 r p).ins k)) := by
  pointwise [val_main_v39, val_main_v38, val_main_v37, val_main_v36, val_main_v30, val_main_v29, val_main_cst_3, val_main_v28, val_main_v27, val_main_v26, val_main_v25, val_main_v24, val_main_v23, val_main_v22, val_main_v21, val_main_cst_1, val_main_cst_2]
  simp only [v2_at]
  rfl
theorem v40_at : val_main_v40 (F := Ideal) x0 x4 x5 x8 (ix2 r p) = (rowOf x0 x4 x5 x2 x6 x7 x8 r p).far := by
  rw [val_main_v40_apply]
  refine (zero_first _).trans (Finset.sum_congr rfl fun k _ => Eq.trans (congrArg _ ?_) (v39_at x0 x4 x5 x2 x6 x7 x8 r p k))
  exact eq_ix3 _
theorem v66_at (k : Fin 21) : val_main_v66 (F := Ideal) x0 x5 (ix3 r p k) = ((rowOf x0 x4 x5 x2 x6 x7 x8 r p).c k + eps) * (Ideal.log ((rowOf x0 x4 x5 x2 x6 x7 x8 r p).c k + eps) - Ideal.log ((rowOf x0 x4 x5 x2 x6 x7 x8 r p).ins k)) := by
  pointwise [val_main_v66, val_main_v65, val_main_v64, val_main_v63, val_main_v62, val_main_v61, val_main_v60, val_main_v59, val_main_cst_17, val_main_cst_18]

  rfl
theorem v67_at : val_main_v67 (F := Ideal) x0 x5 (ix2 r p) = (rowOf x0 x4 x5 x2 x6 x7 x8 r p).away (rowOf x0 x4 x5 x2 x6 x7 x8 r p).c := by
  rw [val_main_v67_apply]
  refine (zero_first _).trans (Finset.sum_congr rfl fun k _ => Eq.trans (congrArg _ ?_) (v66_at x0 x4 x5 x2 x6 x7 x8 r p k))
  exact eq_ix3 _
theorem v97_at (k : Fin 21) : val_main_v97 (F := Ideal) x4 x5 (ix3 r p k) = ((rowOf x0 x4 x5 x2 x6 x7 x8 r p).t k + eps) * (Ideal.log ((rowOf x0 x4 x5 x2 x6 x7 x8 r p).t k + eps) - Ideal.log ((rowOf x0 x4 x5 x2 x6 x7 x8 r p).ins k)) := by
  pointwise [val_main_v97, val_main_v96, val_main_v95, val_main_v94, val_main_v93, val_main_v92, val_main_v91, val_main_v90, val_main_cst_32, val_main_cst_33]
  simp only [v2_at]
  rfl
theorem v98_at : val_main_v98 (F := Ideal) x4 x5 (ix2 r p) = (rowOf x0 x4 x5 x2 x6 x7 x8 r p).away (rowOf x0 x4 x5 x2 x6 x7 x8 r p).t := by
  rw [val_main_v98_apply]
  refine (zero_first _).trans (Finset.sum_congr rfl fun k _ => Eq.trans (congrArg _ ?_) (v97_at x0 x4 x5 x2 x6 x7 x8 r p k))
  exact eq_ix3 _

/-! ## The location errors -/

theorem v77_at (k : Fin 4) : val_main_v77 (F := Ideal) x2 x7 (ix3 r p k) = ((rowOf x0 x4 x5 x2 x6 x7 x8 r p).li k - (rowOf x0 x4 x5 x2 x6 x7 x8 r p).lo k) * ((rowOf x0 x4 x5 x2 x6 x7 x8 r p).li k - (rowOf x0 x4 x5 x2 x6 x7 x8 r p).lo k) := by
  pointwise [val_main_v77, val_main_v76]

  rfl
theorem v78_at : val_main_v78 (F := Ideal) x2 x7 (ix2 r p) = (rowOf x0 x4 x5 x2 x6 x7 x8 r p).err (rowOf x0 x4 x5 x2 x6 x7 x8 r p).lo := by
  rw [val_main_v78_apply]
  refine (zero_first _).trans (Finset.sum_congr rfl fun k _ => Eq.trans (congrArg _ ?_) (v77_at x0 x4 x5 x2 x6 x7 x8 r p k))
  exact eq_ix3 _
theorem v80_at : val_main_v80 (F := Ideal) x2 x7 (ix2 r p) = Ideal.div ((rowOf x0 x4 x5 x2 x6 x7 x8 r p).err (rowOf x0 x4 x5 x2 x6 x7 x8 r p).lo) (Ideal.ofBits .f32 1082130432#32) := by
  rw [val_main_v80_apply, v78_at x0 x4 x5 x2 x6 x7 x8]
  rfl
theorem v108_at (k : Fin 4) : val_main_v108 (F := Ideal) x6 x7 (ix3 r p k) = ((rowOf x0 x4 x5 x2 x6 x7 x8 r p).li k - (rowOf x0 x4 x5 x2 x6 x7 x8 r p).ls k) * ((rowOf x0 x4 x5 x2 x6 x7 x8 r p).li k - (rowOf x0 x4 x5 x2 x6 x7 x8 r p).ls k) := by
  pointwise [val_main_v108, val_main_v107]
  simp only [v5_at]
  rfl
theorem v109_at : val_main_v109 (F := Ideal) x6 x7 (ix2 r p) = (rowOf x0 x4 x5 x2 x6 x7 x8 r p).err (rowOf x0 x4 x5 x2 x6 x7 x8 r p).ls := by
  rw [val_main_v109_apply]
  refine (zero_first _).trans (Finset.sum_congr rfl fun k _ => Eq.trans (congrArg _ ?_) (v108_at x0 x4 x5 x2 x6 x7 x8 r p k))
  exact eq_ix3 _
theorem v111_at : val_main_v111 (F := Ideal) x6 x7 (ix2 r p) = Ideal.div ((rowOf x0 x4 x5 x2 x6 x7 x8 r p).err (rowOf x0 x4 x5 x2 x6 x7 x8 r p).ls) (Ideal.ofBits .f32 1082130432#32) := by
  rw [val_main_v111_apply, v109_at x0 x4 x5 x2 x6 x7 x8]
  rfl

end

/-! ## The means -/

variable (j : S_.Idx)

theorem v48_at : val_main_v48 (F := Ideal) x0 x4 x5 x8 j = meanOver (rowOf x0 x4 x5 x2 x6 x7 x8) Row.Both Row.near := by
  rw [val_main_v48_apply, val_main_v47_apply, val_main_v46_apply, val_main_v45_apply, val_main_v44_apply, val_main_v42_apply]
  refine (select_mean _ _).trans (congrArg₂ mean ((zero_first _).trans (sum_places _ (rowOf x0 x4 x5 x2 x6 x7 x8) _ fun r p => ?_))
    ((zero_first _).trans (sum_places _ (rowOf x0 x4 x5 x2 x6 x7 x8) _ fun r p => v41_at x0 x4 x5 x2 x6 x7 x8 r p)))
  rw [val_main_v43_apply, v35_at x0 x4 x5 x2 x6 x7 x8, v41_at x0 x4 x5 x2 x6 x7 x8]
  rfl
theorem v56_at : val_main_v56 (F := Ideal) x0 x4 x5 x8 j = meanOver (rowOf x0 x4 x5 x2 x6 x7 x8) Row.Both Row.far := by
  rw [val_main_v56_apply, val_main_v55_apply, val_main_v54_apply, val_main_v53_apply, val_main_v52_apply, val_main_v50_apply]
  refine (select_mean _ _).trans (congrArg₂ mean ((zero_first _).trans (sum_places _ (rowOf x0 x4 x5 x2 x6 x7 x8) _ fun r p => ?_))
    ((zero_first _).trans (sum_places _ (rowOf x0 x4 x5 x2 x6 x7 x8) _ fun r p => v49_at x0 x4 x5 x2 x6 x7 x8 r p)))
  rw [val_main_v51_apply, v40_at x0 x4 x5 x2 x6 x7 x8, v49_at x0 x4 x5 x2 x6 x7 x8]
  rfl
theorem v75_at : val_main_v75 (F := Ideal) x0 x4 x5 j = meanOver (rowOf x0 x4 x5 x2 x6 x7 x8) Row.Left (fun r => r.away r.c) := by
  rw [val_main_v75_apply, val_main_v74_apply, val_main_v73_apply, val_main_v72_apply, val_main_v71_apply, val_main_v69_apply]
  refine (select_mean _ _).trans (congrArg₂ mean ((zero_first _).trans (sum_places _ (rowOf x0 x4 x5 x2 x6 x7 x8) _ fun r p => ?_))
    ((zero_first _).trans (sum_places _ (rowOf x0 x4 x5 x2 x6 x7 x8) _ fun r p => v68_at x0 x4 x5 x2 x6 x7 x8 r p)))
  rw [val_main_v70_apply, v67_at x0 x4 x5 x2 x6 x7 x8, v68_at x0 x4 x5 x2 x6 x7 x8]
  rfl
theorem v88_at : val_main_v88 (F := Ideal) x0 x2 x4 x7 j = meanOver (rowOf x0 x4 x5 x2 x6 x7 x8) Row.Left (fun r => Ideal.div (r.err r.lo) (Ideal.ofBits .f32 1082130432#32)) := by
  rw [val_main_v88_apply, val_main_v87_apply, val_main_v86_apply, val_main_v85_apply, val_main_v84_apply, val_main_v82_apply]
  refine (select_mean _ _).trans (congrArg₂ mean ((zero_first _).trans (sum_places _ (rowOf x0 x4 x5 x2 x6 x7 x8) _ fun r p => ?_))
    ((zero_first _).trans (sum_places _ (rowOf x0 x4 x5 x2 x6 x7 x8) _ fun r p => v81_at x0 x4 x5 x2 x6 x7 x8 r p)))
  rw [val_main_v83_apply, v80_at x0 x4 x5 x2 x6 x7 x8, v81_at x0 x4 x5 x2 x6 x7 x8]
  rfl
theorem v106_at : val_main_v106 (F := Ideal) x0 x4 x5 j = meanOver (rowOf x0 x4 x5 x2 x6 x7 x8) Row.Right (fun r => r.away r.t) := by
  rw [val_main_v106_apply, val_main_v105_apply, val_main_v104_apply, val_main_v103_apply, val_main_v102_apply, val_main_v100_apply]
  refine (select_mean _ _).trans (congrArg₂ mean ((zero_first _).trans (sum_places _ (rowOf x0 x4 x5 x2 x6 x7 x8) _ fun r p => ?_))
    ((zero_first _).trans (sum_places _ (rowOf x0 x4 x5 x2 x6 x7 x8) _ fun r p => v99_at x0 x4 x5 x2 x6 x7 x8 r p)))
  rw [val_main_v101_apply, v98_at x0 x4 x5 x2 x6 x7 x8, v99_at x0 x4 x5 x2 x6 x7 x8]
  rfl
theorem v119_at : val_main_v119 (F := Ideal) x0 x4 x6 x7 j = meanOver (rowOf x0 x4 x5 x2 x6 x7 x8) Row.Right (fun r => Ideal.div (r.err r.ls) (Ideal.ofBits .f32 1082130432#32)) := by
  rw [val_main_v119_apply, val_main_v118_apply, val_main_v117_apply, val_main_v116_apply, val_main_v115_apply, val_main_v113_apply]
  refine (select_mean _ _).trans (congrArg₂ mean ((zero_first _).trans (sum_places _ (rowOf x0 x4 x5 x2 x6 x7 x8) _ fun r p => ?_))
    ((zero_first _).trans (sum_places _ (rowOf x0 x4 x5 x2 x6 x7 x8) _ fun r p => v112_at x0 x4 x5 x2 x6 x7 x8 r p)))
  rw [val_main_v114_apply, v111_at x0 x4 x5 x2 x6 x7 x8, v112_at x0 x4 x5 x2 x6 x7 x8]
  rfl

/-- The reference's result is the loss. -/
theorem v122_at : val_main_v122 (F := Ideal) x0 x2 x4 x5 x6 x7 x8 j = loss (rowOf x0 x4 x5 x2 x6 x7 x8) := by
  rw [val_main_v122_apply, val_main_v121_apply, val_main_v120_apply, val_main_v89_apply, val_main_v58_apply, val_main_v57_apply]
  rw [v48_at x0 x4 x5 x2 x6 x7 x8, v56_at x0 x4 x5 x2 x6 x7 x8, v75_at x0 x4 x5 x2 x6 x7 x8, v88_at x0 x4 x5 x2 x6 x7 x8, v106_at x0 x4 x5 x2 x6 x7 x8, v119_at x0 x4 x5 x2 x6 x7 x8]
  rfl

end Cert.ReferenceIdeal.Read

end
-- ==== Proof.Loss.lean ====
module

public import proofs.«01_k».proof.Proof.Plain

@[expose] public section

noncomputable section

/-! # The two ways to write the loss

Where the scores are finite and not negative and the weight lies between zero and one, every argument of a logarithm is
a positive real, the logarithm of a quotient is the difference of the logarithms, and the kernel's blend of its eight
sums is the loss. -/

namespace Cert.Plain

open Idealize.ShloMosaic

/-! ## The constants -/

theorem eps_pos : ∃ e : ℝ, 0 < e ∧ eps = (e : EReal) := by
  refine ⟨_, ?_, show Ideal.ofBits .f32 869711765#32 = _ by simp [Ideal.ofBits, Ideal.ieee]; rfl⟩
  positivity

theorem two_eq : Ideal.ofBits .f32 1073741824#32 = ((2 : ℝ) : EReal) := by
  simp [Ideal.ofBits, Ideal.ieee]
  rw [← EReal.coe_mul]
  norm_num
theorem half_val : Ideal.ofBits .f32 1056964608#32 = ((2⁻¹ : ℝ) : EReal) := by
  simp [Ideal.ofBits, Ideal.ieee]
  rw [← EReal.coe_mul]
  norm_num
theorem four_eq : Ideal.ofBits .f32 1082130432#32 = ((4 : ℝ) : EReal) := by
  simp [Ideal.ofBits, Ideal.ieee]
  rw [← EReal.coe_mul]
  norm_num
theorem quarter_val : Ideal.ofBits .f32 1048576000#32 = ((4⁻¹ : ℝ) : EReal) := by
  simp [Ideal.ofBits, Ideal.ieee]
  rw [← EReal.coe_mul]
  norm_num

theorem div_real (x : EReal) {a : ℝ} (ha : a ≠ 0) : Ideal.div x (a : EReal) = x * ((a⁻¹ : ℝ) : EReal) := by
  rw [Ideal.div, if_neg (by exact_mod_cast ha), EReal.coe_inv]

theorem half_eq (x : EReal) : Ideal.div x (Ideal.ofBits .f32 1073741824#32) = x * Ideal.ofBits .f32 1056964608#32 := by
  rw [two_eq, half_val, div_real x two_ne_zero]
theorem quarter_eq (x : EReal) : Ideal.div x (Ideal.ofBits .f32 1082130432#32) = x * Ideal.ofBits .f32 1048576000#32 := by
  rw [four_eq, quarter_val, div_real x four_ne_zero]

/-- A number that is real and positive. -/
def Pos (x : EReal) : Prop := ∃ a : ℝ, 0 < a ∧ x = (a : EReal)

theorem log_real {a : ℝ} (ha : 0 < a) : Ideal.log (a : EReal) = (Real.log a : EReal) := by
  show (if a ≤ 0 then ⊥ else (Real.log a : EReal)) = _
  rw [if_neg (not_le.2 ha)]

theorem log_quot {x y : EReal} (hx : Pos x) (hy : Pos y) : Ideal.log (Ideal.div x y) = Ideal.log x - Ideal.log y := by
  obtain ⟨a, ha, rfl⟩ := hx
  obtain ⟨b, hb, rfl⟩ := hy
  rw [div_real _ hb.ne', ← EReal.coe_mul, log_real (mul_pos ha (inv_pos.2 hb)), log_real ha, log_real hb, ← EReal.coe_sub,
    Real.log_mul ha.ne' (inv_ne_zero hb.ne'), Real.log_inv, sub_eq_add_neg]

theorem both_ways {x y : EReal} (hx : Pos x) (hy : Pos y) :
    (x - y) * (Ideal.log x - Ideal.log y) = x * (Ideal.log x - Ideal.log y) + y * (Ideal.log y - Ideal.log x) := by
  obtain ⟨a, ha, rfl⟩ := hx
  obtain ⟨b, hb, rfl⟩ := hy
  rw [log_real ha, log_real hb]
  norm_cast
  ring

/-- A finite score that is not negative. -/
def Score (x : EReal) : Prop := 0 ≤ x ∧ x < ⊤

theorem Score.real {x : EReal} (h : Score x) : ∃ a : ℝ, 0 ≤ a ∧ x = (a : EReal) := by
  have hb : x ≠ ⊥ := fun e => by rw [e] at h; exact absurd h.1 (by simp)
  lift x to ℝ using ⟨h.2.ne, hb⟩
  exact ⟨x, EReal.coe_nonneg.1 h.1, rfl⟩

theorem Score.pos {x : EReal} (h : Score x) : Pos (x + eps) := by
  obtain ⟨a, ha, rfl⟩ := h.real
  obtain ⟨e, he, h⟩ := eps_pos
  exact ⟨a + e, by positivity, by rw [h]; rfl⟩

/-- A row the precondition admits. -/
structure Row.Good (r : Row) : Prop where
  lam_nonneg : 0 ≤ r.lam
  lam_le : r.lam ≤ 1
  c : ∀ k, Score (r.c k)
  t : ∀ k, Score (r.t k)
  i : ∀ k, Score (r.i k)

namespace Row

variable {r : Row} (g : r.Good)
include g

theorem Good.mixed (k : Fin 21) : Pos (r.mixed k) := by
  obtain ⟨l, hl, el⟩ := Score.real (x := r.lam) ⟨g.lam_nonneg, g.lam_le.trans_lt (EReal.coe_lt_top 1)⟩
  obtain ⟨a, ha, ea⟩ := (g.c k).real
  obtain ⟨b, hb, eb⟩ := (g.t k).real
  obtain ⟨e, he, h⟩ := eps_pos
  have hl' : l ≤ 1 := by have := g.lam_le; rw [el] at this; exact_mod_cast this
  refine ⟨l * a + (1 - l) * b + e, ?_, ?_⟩
  · have : 0 ≤ l * a := mul_nonneg hl ha
    have : 0 ≤ (1 - l) * b := mul_nonneg (sub_nonneg.2 hl') hb
    linarith
  · unfold Row.mixed
    rw [el, ea, eb, h]
    push_cast
    rfl

theorem Good.ins (k : Fin 21) : Pos (r.ins k) := (g.i k).pos

/-- On a row foreground on both sides the one divergence is the two. -/
theorem Good.kl_both (h : r.Both) : r.kl = r.near + r.far := by
  have hl : ¬r.Left := fun e => e.2 h.2
  have hr : ¬r.Right := fun e => e.2 h.1
  unfold Row.kl Row.near Row.far
  rw [← Finset.sum_add_distrib]
  refine Finset.sum_congr rfl fun k _ => ?_
  unfold Row.coef Row.num Row.den
  rw [pick_pos h, pick_pos h, pick_neg hl, pick_neg hr, log_quot (g.ins k) (g.mixed k)]
  exact both_ways (g.ins k) (g.mixed k)

theorem Good.kl_left (h : r.Left) : r.kl = r.away r.c := by
  have hb : ¬r.Both := fun e => h.2 e.2
  refine Finset.sum_congr rfl fun k _ => ?_
  unfold Row.coef Row.num Row.den
  rw [pick_neg hb, pick_neg hb, pick_pos (Or.inl h), pick_pos h, log_quot (g.c k).pos (g.ins k)]

theorem Good.kl_right (h : r.Right) : r.kl = r.away r.t := by
  have hb : ¬r.Both := fun e => h.2 e.1
  have hl : ¬r.Left := fun e => h.2 e.1
  refine Finset.sum_congr rfl fun k _ => ?_
  unfold Row.coef Row.num Row.den
  rw [pick_neg hb, pick_neg hb, pick_pos (Or.inr h), pick_neg hl, pick_pos h, log_quot (g.t k).pos (g.ins k)]

end Row

/-! ## Masks, sums and means -/

theorem mul_one_congr {p : Prop} {x y : EReal} (h : p → x = y) : x * one p = y * one p := by
  by_cases hp : p
  · rw [h hp]
  · rw [one_neg hp, mul_zero, mul_zero]

theorem add_mul_one (p : Prop) (x y : EReal) : (x + y) * one p = x * one p + y * one p := by
  by_cases hp : p
  · simp only [one_pos hp, mul_one]
  · simp only [one_neg hp, mul_zero, add_zero]

/-- The factor a mean multiplies its sum by. -/
def weight (n : EReal) : EReal := pick (0 < n) (max n 1)⁻¹ 0

theorem mean_mul (s n : EReal) : mean s n = s * weight n := by
  have h : max n 1 ≠ 0 := (lt_of_lt_of_le zero_lt_one (le_max_right n 1)).ne'
  by_cases hn : 0 < n
  · unfold mean weight
    rw [pick_pos hn, pick_pos hn, Ideal.div, if_neg h]
  · unfold mean weight
    rw [pick_neg hn, pick_neg hn, mul_zero]

theorem weight_nonneg (n : EReal) : 0 ≤ weight n := by
  unfold weight
  by_cases hn : 0 < n
  · rw [pick_pos hn]
    exact EReal.inv_nonneg_of_nonneg (zero_le_one.trans (le_max_right n 1))
  · rw [pick_neg hn]

theorem weight_ne_top (n : EReal) : weight n ≠ ⊤ := by
  unfold weight
  by_cases hn : 0 < n
  · rw [pick_pos hn]
    exact (EReal.inv_lt_top _).ne
  · rw [pick_neg hn]
    exact EReal.zero_ne_top

theorem mean_add (s s' n : EReal) : mean (s + s') n = mean s n + mean s' n := by
  simp only [mean_mul]
  exact EReal.right_distrib_of_nonneg_of_ne_top (weight_nonneg n) (weight_ne_top n) s s'

variable (rows : Fin 32 → Fin 8732 → Row)

theorem over_congr {f g : Row → EReal} (h : ∀ r p, f (rows r p) = g (rows r p)) : over rows f = over rows g :=
  Finset.sum_congr rfl fun r _ => Finset.sum_congr rfl fun p _ => h r p

theorem over_add (f g : Row → EReal) : (over rows fun r => f r + g r) = over rows f + over rows g := by
  unfold over
  simp only [Finset.sum_add_distrib]

theorem sum_mul_right {ι : Type} [Fintype ι] (f : ι → EReal) {q : EReal} (h0 : 0 ≤ q) (h1 : q ≠ ⊤) : ∑ i, f i * q = (∑ i, f i) * q := by
  classical
  refine Finset.induction_on (Finset.univ : Finset ι) (by simp) fun a s ha ih => ?_
  rw [Finset.sum_insert ha, Finset.sum_insert ha, ih, EReal.right_distrib_of_nonneg_of_ne_top h0 h1]

theorem over_mul (f : Row → EReal) {q : EReal} (h0 : 0 ≤ q) (h1 : q ≠ ⊤) : (over rows fun r => f r * q) = over rows f * q := by
  unfold over
  simp only [sum_mul_right _ h0 h1]

theorem quarter_nonneg : 0 ≤ Ideal.ofBits .f32 1048576000#32 := by
  rw [quarter_val]
  exact EReal.coe_nonneg.2 (by norm_num)

theorem quarter_ne_top : Ideal.ofBits .f32 1048576000#32 ≠ ⊤ := by
  rw [quarter_val]
  exact EReal.coe_ne_top _

/-- A mean of quarters is a quarter of the mean. -/
theorem mean_quarter (p : Row → Prop) (f : Row → EReal) :
    meanOver rows p (fun r => Ideal.div (f r) (Ideal.ofBits .f32 1082130432#32)) = meanOver rows p f * Ideal.ofBits .f32 1048576000#32 := by
  have h : (over rows fun r => Ideal.div (f r) (Ideal.ofBits .f32 1082130432#32) * one (p r))
      = (over rows fun r => f r * one (p r)) * Ideal.ofBits .f32 1048576000#32 :=
    (over_congr rows fun r q => by rw [quarter_eq]; exact mul_right_comm _ _ _).trans (over_mul rows (fun r => f r * one (p r)) quarter_nonneg quarter_ne_top)
  unfold meanOver
  rw [h, mean_mul, mean_mul]
  exact mul_right_comm _ _ _

/-- The kernel's blend of the eight sums is the loss. -/
theorem blend_eq (good : ∀ r p, (rows r p).Good) : blend (fun k => over rows fun r => r.term k) = loss rows := by
  have h0 : (over rows fun r => r.term 0) = (over rows fun r => r.near * one r.Both) + over rows fun r => r.far * one r.Both := by
    rw [← over_add]
    refine over_congr rows fun r p => ?_
    show (rows r p).kl * one (rows r p).Both = _
    rw [← add_mul_one]
    exact mul_one_congr (good r p).kl_both
  have h1 : (over rows fun r => r.term 1) = over rows fun r => r.away r.c * one r.Left :=
    over_congr rows fun r p => mul_one_congr (good r p).kl_left
  have h2 : (over rows fun r => r.term 2) = over rows fun r => r.away r.t * one r.Right :=
    over_congr rows fun r p => mul_one_congr (good r p).kl_right
  unfold blend loss
  beta_reduce
  rw [h0, h1, h2, mean_add, half_eq, mean_quarter, mean_quarter]
  simp only [add_assoc]
  rfl

end Cert.Plain

end
-- ==== Proof.Equal.lean ====
module

public import proofs.«01_k».proof.Defs
public import proofs.«01_k».proof.Proof.Value
public import proofs.«01_k».proof.Proof.Ref
public import proofs.«01_k».proof.Proof.Loss

@[expose] public section

set_option maxRecDepth 16384

noncomputable section

/-! # The kernel and the reference agree

The precondition makes every row one on which the two ways to write the loss agree, so the two programs end with the
same number. -/

namespace Cert.Equal

open Idealize.ShloMosaic Idealize.ShloMosaic.TcCoe Idealize.SL.Sem
open Cert.Plain Cert.KernelIdeal.Body

/-- The one shape relation the precondition's operations take. -/
theorem preFacts : Cert.Pre_scores_nonneg.Facts := ⟨Cert.ReferenceIdeal.Gen.facts.bcast_S_S32x8732x21⟩

theorem bit_true {p : Prop} (h : bit p = 1#1) : p := by
  by_contra hp
  simp [bit, hp] at h

/-- A score the precondition admits. -/
theorem score_of (x : EReal) (h : IntOp.andi (FloatOps.cmpf .oge (x : Ideal .f32) (FloatOps.ofBits .f32 0x00000000#32 : Ideal .f32))
    (FloatOps.cmpf .olt (x : Ideal .f32) (FloatOps.ofBits .f32 0x7F800000#32 : Ideal .f32)) = 1#1) : Score x := by
  have e0 : Ideal.ofBits .f32 0x00000000#32 = 0 := by simp [Ideal.ofBits, Ideal.ieee]
  have e1 : Ideal.ofBits .f32 0x7F800000#32 = ⊤ := by simp [Ideal.ofBits, Ideal.ieee]
  have a : FloatOps.cmpf .oge (x : Ideal .f32) (FloatOps.ofBits .f32 0x00000000#32 : Ideal .f32) = bit (Ideal.ofBits .f32 0x00000000#32 ≤ x) := bit_decide _
  have b : FloatOps.cmpf .olt (x : Ideal .f32) (FloatOps.ofBits .f32 0x7F800000#32 : Ideal .f32) = bit (x < Ideal.ofBits .f32 0x7F800000#32) := bit_decide _
  rw [a, b, bit_and, e0, e1] at h
  exact bit_true h

/-- A weight the precondition admits. -/
theorem weight_of (x : EReal) (h : IntOp.andi (FloatOps.cmpf .oge (x : Ideal .f32) (FloatOps.ofBits .f32 0x00000000#32 : Ideal .f32))
    (FloatOps.cmpf .ole (x : Ideal .f32) (FloatOps.ofBits .f32 0x3F800000#32 : Ideal .f32)) = 1#1) : 0 ≤ x ∧ x ≤ 1 := by
  have e0 : Ideal.ofBits .f32 0x00000000#32 = 0 := by simp [Ideal.ofBits, Ideal.ieee]
  have e1 : Ideal.ofBits .f32 0x3F800000#32 = 1 := by pointwise
  have a : FloatOps.cmpf .oge (x : Ideal .f32) (FloatOps.ofBits .f32 0x00000000#32 : Ideal .f32) = bit (Ideal.ofBits .f32 0x00000000#32 ≤ x) := bit_decide _
  have b : FloatOps.cmpf .ole (x : Ideal .f32) (FloatOps.ofBits .f32 0x3F800000#32 : Ideal .f32) = bit (x ≤ Ideal.ofBits .f32 0x3F800000#32) := bit_decide _
  rw [a, b, bit_and, e0, e1] at h
  exact bit_true h

/-- Every row is one the precondition admits. -/
theorem good (m : (ℓ : Loc Cert.KernelIdeal.nD Cert.KernelIdeal.τ Cert.KernelIdeal.sig) → Buf (Elt Ideal) ℓ)
    (h : Pre_KernelIdeal_scores_nonneg (hPre_scores_nonneg := preFacts) m) (c : Dev Cert.KernelIdeal.nD) (r : Fin 32) (p : Fin 8732) :
    (argRow m c r p).Good := by
  obtain ⟨h0, h4, h5, h8⟩ := h c
  have w := weight_of _ (congrFun h8 ix0)
  exact ⟨w.1, w.2, fun k => score_of _ (congrFun h0 (ix3 r p k)), fun k => score_of _ (congrFun h4 (ix3 (across r) p k)),
    fun k => score_of _ (congrFun h5 (ix3 r p k))⟩

/-- The two programs end with the same number. -/
theorem algebraic : algebraic_KernelIdeal_ReferenceIdeal_pre_scores_nonneg (hKernelIdeal := Cert.KernelIdeal.Gen.facts)
    (hReferenceIdeal := Cert.ReferenceIdeal.Gen.facts) (hPre_scores_nonneg := preFacts) := by
  intro m g m' g' hpre hargs
  letI := Cert.ReferenceIdeal.Gen.facts
  refine ⟨fun c _ => answer m c, value_run m g, ?_⟩
  refine (θ_run Cert.ReferenceIdeal.defs _ _).mono (fun r h c => ⟨(h c).1.trans ?_, (h c).2⟩) (Cert.ReferenceIdeal.Value.run (F := Ideal) m' g')
  rw [Cert.ReferenceIdeal.Read.val_main_v122_eq]
  obtain ⟨a0, _, a2, _, a4, a5, a6, a7, a8⟩ := hargs c
  rw [a0, a2, a4, a5, a6, a7, a8]
  funext j
  rw [Cert.ReferenceIdeal.Read.v122_at]
  exact ((answer_eq m c).trans (blend_eq (argRow m c) (good m hpre c))).symm

end Cert.Equal

end
-- ==== Proof.lean ====
module

public import proofs.«01_k».proof.Proof.Gen.ReferenceIdeal.Read
public import proofs.«01_k».proof.Defs
public import proofs.«01_k».proof.Proof.Frames
public import proofs.«01_k».proof.Proof.Equal

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Equal.preFacts,
    Cert.Frames.kernel, Cert.Frames.kernelIdeal, fun m g _ => Cert.Frames.kernelIdeal m g trivial,
    Cert.Frames.referenceIdeal, fun m g _ => Cert.Frames.referenceIdeal m g trivial, trivial, Cert.Equal.algebraic⟩

end Cert.Proof

end
